-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v160) = v3 c
          ∧ r.2.mem ((c.tc : Thread Cert.ReferenceIdeal.nD Cert.ReferenceIdeal.τ).loc Cert.ReferenceIdeal.main_v161) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x256x4096 : Shape := ⟨3, ![6, 256, 4096]⟩
abbrev S6x256 : Shape := ⟨2, ![6, 256]⟩
abbrev S6x256x1024 : Shape := ⟨3, ![6, 256, 1024]⟩
abbrev S2048x1024 : Shape := ⟨2, ![2048, 1024]⟩
abbrev S64x1024 : Shape := ⟨2, ![64, 1024]⟩
abbrev S4096x64 : Shape := ⟨2, ![4096, 64]⟩
abbrev S_ : Shape := ⟨0, ![]⟩

class Facts : Prop where
  natLt_8_32 : 8 < 32
  bcast_S_S6x256x4096 : S_.BroadcastsInDim S6x256x4096 (![] : Fin 0 → Fin S6x256x4096.rank)
  bcast_S_S6x256x1024 : S_.BroadcastsInDim S6x256x1024 (![] : Fin 0 → Fin S6x256x1024.rank)
  bcast_S_S6x256 : S_.BroadcastsInDim S6x256 (![] : Fin 0 → Fin S6x256.rank)
  bcast_S_S4096x64 : S_.BroadcastsInDim S4096x64 (![] : Fin 0 → Fin S4096x64.rank)
  bcast_S_S64x1024 : S_.BroadcastsInDim S64x1024 (![] : Fin 0 → Fin S64x1024.rank)

variable [Facts]

def fn_part1 {F : FTy → Type} [FloatOps F] (main_arg7 : FVec F S64x1024 .bf16) (main_v4 : IVec S6x256x4096 1) (main_v9 : IVec S6x256x1024 1) (main_v12 : IVec S6x256 1) (main_v15 : IVec S6x256 1) (main_v16 : FVec F S4096x64 .bf16) (main_cst_4 : FVec F S_ .bf16) : IVec S6x256x4096 1 × IVec S6x256x1024 1 × IVec S6x256 1 × IVec S6x256 1 × IVec S4096x64 1 × IVec S64x1024 1 :=
  let main_v17 : FVec F S4096x64 .bf16 := broadcastInDim S4096x64 ![] bcast_S_S4096x64 main_cst_4
  let main_v18 : IVec S4096x64 1 := cmpf .olt main_v16 main_v17
  let main_v19 : FVec F S64x1024 .bf16 := Host.absf main_arg7
  let main_cst_5 : FVec F S_ .bf16 := constant S_ .bf16 0x7F80#16
  let main_v20 : FVec F S64x1024 .bf16 := broadcastInDim S64x1024 ![] bcast_S_S64x1024 main_cst_5
  let main_v21 : IVec S64x1024 1 := cmpf .olt main_v19 main_v20
  (main_v4, main_v9, main_v12, main_v15, main_v18, main_v21)

def fn {F : FTy → Type} [FloatOps F] (main_arg0 : IVec S6x256x4096 8) (main_arg1 : FVec F S6x256 .f32) (main_arg2 : IVec S6x256x1024 8) (main_arg3 : FVec F S6x256 .f32) (main_arg4 : IVec S2048x1024 8) (main_arg5 : FVec F S64x1024 .bf16) (main_arg6 : FVec F S4096x64 .bf16) (main_arg7 : FVec F S64x1024 .bf16) : IVec S6x256x4096 1 × IVec S6x256x1024 1 × IVec S6x256 1 × IVec S6x256 1 × IVec S4096x64 1 × IVec S64x1024 1 :=
  let main_v0 : IVec S6x256x4096 32 := (extui 32 · natLt_8_32) main_arg0
  let main_c : IVec S_ 32 := constantI S_ 32 127#32
  let main_v1 : IVec S6x256x4096 32 := broadcastInDim S6x256x4096 ![] bcast_S_S6x256x4096 main_c
  let main_v2 : IVec S6x256x4096 32 := andi main_v0 main_v1
  let main_c_0 : IVec S_ 32 := constantI S_ 32 127#32
  let main_v3 : IVec S6x256x4096 32 := broadcastInDim S6x256x4096 ![] bcast_S_S6x256x4096 main_c_0
  let main_v4 : IVec S6x256x4096 1 := cmpi .ne main_v2 main_v3
  let main_v5 : IVec S6x256x1024 32 := (extui 32 · natLt_8_32) main_arg2
  let main_c_1 : IVec S_ 32 := constantI S_ 32 127#32
  let main_v6 : IVec S6x256x1024 32 := broadcastInDim S6x256x1024 ![] bcast_S_S6x256x1024 main_c_1
  let main_v7 : IVec S6x256x1024 32 := andi main_v5 main_v6
  let main_c_2 : IVec S_ 32 := constantI S_ 32 124#32
  let main_v8 : IVec S6x256x1024 32 := broadcastInDim S6x256x1024 ![] bcast_S_S6x256x1024 main_c_2
  let main_v9 : IVec S6x256x1024 1 := cmpi .slt main_v7 main_v8
  let main_v10 : FVec F S6x256 .f32 := Host.absf main_arg1
  let main_cst : FVec F S_ .f32 := constant S_ .f32 0x7F800000#32
  let main_v11 : FVec F S6x256 .f32 := broadcastInDim S6x256 ![] bcast_S_S6x256 main_cst
  let main_v12 : IVec S6x256 1 := cmpf .olt main_v10 main_v11
  let main_v13 : FVec F S6x256 .f32 := Host.absf main_arg3
  let main_cst_3 : FVec F S_ .f32 := constant S_ .f32 0x7F800000#32
  let main_v14 : FVec F S6x256 .f32 := broadcastInDim S6x256 ![] bcast_S_S6x256 main_cst_3
  let main_v15 : IVec S6x256 1 := cmpf .olt main_v13 main_v14
  let main_v16 : FVec F S4096x64 .bf16 := Host.absf main_arg6
  let main_cst_4 : FVec F S_ .bf16 := constant S_ .bf16 0x7F80#16
  fn_part1 (F := F) main_arg7 main_v4 main_v9 main_v12 main_v15 main_v16 main_cst_4
-- ==== Kernel.lean ====
abbrev S6x256x4096 : Shape := ⟨3, ![6, 256, 4096]⟩
abbrev S6x256 : Shape := ⟨2, ![6, 256]⟩
abbrev S6x256x1024 : Shape := ⟨3, ![6, 256, 1024]⟩
abbrev S2048x1024 : Shape := ⟨2, ![2048, 1024]⟩
abbrev S64x1024 : Shape := ⟨2, ![64, 1024]⟩
abbrev S4096x64 : Shape := ⟨2, ![4096, 64]⟩
abbrev S8x8x1024 : Shape := ⟨3, ![8, 8, 1024]⟩
abbrev S1536x4096 : Shape := ⟨2, ![1536, 4096]⟩
abbrev S1536x1024 : Shape := ⟨2, ![1536, 1024]⟩
abbrev S64x4096 : Shape := ⟨2, ![64, 4096]⟩
abbrev S6x64x256 : Shape := ⟨3, ![6, 64, 256]⟩
abbrev S1536x512 : Shape := ⟨2, ![1536, 512]⟩
abbrev S256x1024 : Shape := ⟨2, ![256, 1024]⟩
abbrev S1x8x1024 : Shape := ⟨3, ![1, 8, 1024]⟩
abbrev S64x512 : Shape := ⟨2, ![64, 512]⟩
abbrev S1536x256 : Shape := ⟨2, ![1536, 256]⟩
abbrev S192x1536 : Shape := ⟨2, ![192, 1536]⟩
abbrev S1536x128 : Shape := ⟨2, ![1536, 128]⟩
abbrev S512x1024 : Shape := ⟨2, ![512, 1024]⟩
abbrev S64x1536 : Shape := ⟨2, ![64, 1536]⟩
abbrev S64x256 : Shape := ⟨2, ![64, 256]⟩
abbrev S1x256 : Shape := ⟨2, ![1, 256]⟩
abbrev S1x64x256 : Shape := ⟨3, ![1, 64, 256]⟩
abbrev S256x256 : Shape := ⟨2, ![256, 256]⟩
abbrev S192x256 : Shape := ⟨2, ![192, 256]⟩
abbrev S128x256 : Shape := ⟨2, ![128, 256]⟩
abbrev S256x128 : Shape := ⟨2, ![256, 128]⟩
abbrev S32x1024 : Shape := ⟨2, ![32, 1024]⟩
abbrev S1x1x1024 : Shape := ⟨3, ![1, 1, 1024]⟩
abbrev S1x1024 : Shape := ⟨2, ![1, 1024]⟩
abbrev S256x512 : Shape := ⟨2, ![256, 512]⟩
abbrev S192x512 : Shape := ⟨2, ![192, 512]⟩
abbrev S192x1024 : Shape := ⟨2, ![192, 1024]⟩

abbrev nBuf : Space → Nat
  | .hbm => 19
  | .vmem => 25
  | .smem => 0
  | _ => 0

abbrev bufTy : (tb : Table) → Fin (tcTables nBuf tb) → BufTy
  | .hbm, ⟨0, _⟩ => ⟨S6x256x4096, .i8⟩
  | .hbm, ⟨1, _⟩ => ⟨S6x256, .f32⟩
  | .hbm, ⟨2, _⟩ => ⟨S6x256x1024, .i8⟩
  | .hbm, ⟨3, _⟩ => ⟨S6x256, .f32⟩
  | .hbm, ⟨4, _⟩ => ⟨S2048x1024, .i8⟩
  | .hbm, ⟨5, _⟩ => ⟨S64x1024, .bf16⟩
  | .hbm, ⟨6, _⟩ => ⟨S4096x64, .bf16⟩
  | .hbm, ⟨7, _⟩ => ⟨S64x1024, .bf16⟩
  | .hbm, ⟨8, _⟩ => ⟨S6x256x4096, .fp8e4m3⟩
  | .hbm, ⟨9, _⟩ => ⟨S6x256x1024, .fp8e5m2⟩
  | .hbm, ⟨10, _⟩ => ⟨S8x8x1024, .bf16⟩
  | .hbm, ⟨11, _⟩ => ⟨S1536x4096, .fp8e4m3⟩
  | .hbm, ⟨12, _⟩ => ⟨S1536x1024, .fp8e5m2⟩
  | .hbm, ⟨13, _⟩ => ⟨S64x4096, .bf16⟩
  | .hbm, ⟨14, _⟩ => ⟨S1536x4096, .bf16⟩
  | .hbm, ⟨15, _⟩ => ⟨S64x4096, .f32⟩
  | .hbm, ⟨16, _⟩ => ⟨S64x1024, .f32⟩
  | .hbm, ⟨17, _⟩ => ⟨S6x64x256, .f32⟩
  | .hbm, ⟨18, _⟩ => ⟨S6x64x256, .f32⟩
  | .local _ .vmem, ⟨0, _⟩ => ⟨S1536x512, .fp8e4m3⟩
  | .local _ .vmem, ⟨1, _⟩ => ⟨S1536x512, .fp8e4m3⟩
  | .local _ .vmem, ⟨2, _⟩ => ⟨S6x256, .f32⟩
  | .local _ .vmem, ⟨3, _⟩ => ⟨S1536x1024, .fp8e5m2⟩
  | .local _ .vmem, ⟨4, _⟩ => ⟨S6x256, .f32⟩
  | .local _ .vmem, ⟨5, _⟩ => ⟨S256x1024, .i8⟩
  | .local _ .vmem, ⟨6, _⟩ => ⟨S256x1024, .i8⟩
  | .local _ .vmem, ⟨7, _⟩ => ⟨S1x8x1024, .bf16⟩
  | .local _ .vmem, ⟨8, _⟩ => ⟨S1x8x1024, .bf16⟩
  | .local _ .vmem, ⟨9, _⟩ => ⟨S64x512, .bf16⟩
  | .local _ .vmem, ⟨10, _⟩ => ⟨S64x512, .bf16⟩
  | .local _ .vmem, ⟨11, _⟩ => ⟨S64x1024, .bf16⟩
  | .local _ .vmem, ⟨12, _⟩ => ⟨S1536x512, .bf16⟩
  | .local _ .vmem, ⟨13, _⟩ => ⟨S1536x512, .bf16⟩
  | .local _ .vmem, ⟨14, _⟩ => ⟨S64x512, .f32⟩
  | .local _ .vmem, ⟨15, _⟩ => ⟨S64x512, .f32⟩
  | .local _ .vmem, ⟨16, _⟩ => ⟨S64x1024, .f32⟩
  | .local _ .vmem, ⟨17, _⟩ => ⟨S6x64x256, .f32⟩
  | .local _ .vmem, ⟨18, _⟩ => ⟨S6x64x256, .f32⟩
  | .local _ .vmem, ⟨19, _⟩ => ⟨S1536x1024, .bf16⟩
  | .local _ .vmem, ⟨20, _⟩ => ⟨S1536x256, .bf16⟩
  | .local _ .vmem, ⟨21, _⟩ => ⟨S192x1536, .bf16⟩
  | .local _ .vmem, ⟨22, _⟩ => ⟨S1536x128, .f32⟩
  | .local _ .vmem, ⟨23, _⟩ => ⟨S512x1024, .bf16⟩
  | .local _ .vmem, ⟨24, _⟩ => ⟨S64x1536, .f32⟩
  | _, _ => ⟨S6x256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v594 : BitVec 1 := Scalar.cmpi .eq arg0 c7_i32
  let v595 : BitVec 32 := Scalar.extui v594
  let c0_i32_321 : BitVec 32 := 0#32
  let v596 : BitVec 1 := Scalar.cmpi .ne v595 c0_i32_321
  v596

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1536x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x64x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S6x256x4096 : Shape := ⟨3, ![6, 256, 4096]⟩
abbrev S6x256 : Shape := ⟨2, ![6, 256]⟩
abbrev S6x256x1024 : Shape := ⟨3, ![6, 256, 1024]⟩
abbrev S2048x1024 : Shape := ⟨2, ![2048, 1024]⟩
abbrev S64x1024 : Shape := ⟨2, ![64, 1024]⟩
abbrev S4096x64 : Shape := ⟨2, ![4096, 64]⟩
abbrev S6x256x1 : Shape := ⟨3, ![6, 256, 1]⟩
abbrev S6x256x64 : Shape := ⟨3, ![6, 256, 64]⟩
abbrev S_ : Shape := ⟨0, ![]⟩
abbrev S64x32x1024 : Shape := ⟨3, ![64, 32, 1024]⟩
abbrev S6x256x2048 : Shape := ⟨3, ![6, 256, 2048]⟩
abbrev S6x256x2048x1 : Shape := ⟨4, ![6, 256, 2048, 1]⟩
abbrev S6x256x2048x2 : Shape := ⟨4, ![6, 256, 2048, 2]⟩
abbrev S1536x4096 : Shape := ⟨2, ![1536, 4096]⟩
abbrev S64x4096 : Shape := ⟨2, ![64, 4096]⟩
abbrev S6x64x256 : Shape := ⟨3, ![6, 64, 256]⟩

abbrev nBuf : Space → Nat
  | .hbm => 232
  | .vmem => 4
  | .smem => 0
  | _ => 0

abbrev hbmTy0_0 (i : Nat) : BufTy := match i % 128 with
  | 0 => ⟨S6x256x4096, .i8⟩
  | 1 => ⟨S6x256, .f32⟩
  | 2 => ⟨S6x256x1024, .i8⟩
  | 3 => ⟨S6x256, .f32⟩
  | 4 => ⟨S2048x1024, .i8⟩
  | 5 => ⟨S64x1024, .bf16⟩
  | 6 => ⟨S4096x64, .bf16⟩
  | 7 => ⟨S64x1024, .bf16⟩
  | 8 => ⟨S6x256x4096, .fp8e4m3⟩
  | 9 => ⟨S6x256x1024, .fp8e5m2⟩
  | 10 => ⟨S6x256x4096, .bf16⟩
  | 11 => ⟨S6x256x1024, .bf16⟩
  | 12 => ⟨S6x256x1, .f32⟩
  | 13 => ⟨S6x256x1, .f32⟩
  | 14 => ⟨S6x256x64, .f32⟩
  | 15 => ⟨S6x256x64, .f32⟩
  | 16 => ⟨S6x256x64, .f32⟩
  | 17 => ⟨S6x256x64, .f32⟩
  | 18 => ⟨S6x256x64, .f32⟩
  | 19 => ⟨S6x256x64, .f32⟩
  | 20 => ⟨S2048x1024, .i32⟩
  | 21 => ⟨S_, .i32⟩
  | 22 => ⟨S2048x1024, .i32⟩
  | 23 => ⟨S2048x1024, .i32⟩
  | 24 => ⟨S_, .i32⟩
  | 25 => ⟨S2048x1024, .i32⟩
  | 26 => ⟨S2048x1024, .i32⟩
  | 27 => ⟨S64x32x1024, .bf16⟩
  | 28 => ⟨S2048x1024, .bf16⟩
  | 29 => ⟨S_, .i32⟩
  | 30 => ⟨S2048x1024, .i32⟩
  | 31 => ⟨S2048x1024, .i32⟩
  | 32 => ⟨S_, .i32⟩
  | 33 => ⟨S2048x1024, .i32⟩
  | 34 => ⟨S2048x1024, .i32⟩
  | 35 => ⟨S_, .i32⟩
  | 36 => ⟨S2048x1024, .i32⟩
  | 37 => ⟨S2048x1024, .i1⟩
  | 38 => ⟨S_, .i32⟩
  | 39 => ⟨S2048x1024, .i32⟩
  | 40 => ⟨S2048x1024, .i32⟩
  | 41 => ⟨S_, .i32⟩
  | 42 => ⟨S2048x1024, .i32⟩
  | 43 => ⟨S2048x1024, .i32⟩
  | 44 => ⟨S_, .i32⟩
  | 45 => ⟨S2048x1024, .i32⟩
  | 46 => ⟨S2048x1024, .i1⟩
  | 47 => ⟨S_, .i32⟩
  | 48 => ⟨S2048x1024, .i32⟩
  | 49 => ⟨S2048x1024, .i32⟩
  | 50 => ⟨S_, .i32⟩
  | 51 => ⟨S2048x1024, .i32⟩
  | 52 => ⟨S2048x1024, .i32⟩
  | 53 => ⟨S_, .i32⟩
  | 54 => ⟨S2048x1024, .i32⟩
  | 55 => ⟨S2048x1024, .i1⟩
  | 56 => ⟨S_, .i32⟩
  | 57 => ⟨S2048x1024, .i32⟩
  | 58 => ⟨S2048x1024, .i32⟩
  | 59 => ⟨S_, .i32⟩
  | 60 => ⟨S2048x1024, .i32⟩
  | 61 => ⟨S2048x1024, .i32⟩
  | 62 => ⟨S_, .i32⟩
  | 63 => ⟨S2048x1024, .i32⟩
  | 64 => ⟨S2048x1024, .i1⟩
  | 65 => ⟨S_, .bf16⟩
  | 66 => ⟨S2048x1024, .bf16⟩
  | 67 => ⟨S_, .bf16⟩
  | 68 => ⟨S2048x1024, .bf16⟩
  | 69 => ⟨S2048x1024, .bf16⟩
  | 70 => ⟨S_, .bf16⟩
  | 71 => ⟨S2048x1024, .bf16⟩
  | 72 => ⟨S_, .bf16⟩
  | 73 => ⟨S2048x1024, .bf16⟩
  | 74 => ⟨S2048x1024, .bf16⟩
  | 75 => ⟨S2048x1024, .bf16⟩
  | 76 => ⟨S_, .bf16⟩
  | 77 => ⟨S2048x1024, .bf16⟩
  | 78 => ⟨S_, .bf16⟩
  | 79 => ⟨S2048x1024, .bf16⟩
  | 80 => ⟨S2048x1024, .bf16⟩
  | 81 => ⟨S_, .bf16⟩
  | 82 => ⟨S2048x1024, .bf16⟩
  | 83 => ⟨S_, .bf16⟩
  | 84 => ⟨S2048x1024, .bf16⟩
  | 85 => ⟨S2048x1024, .bf16⟩
  | 86 => ⟨S2048x1024, .bf16⟩
  | 87 => ⟨S2048x1024, .bf16⟩
  | 88 => ⟨S_, .bf16⟩
  | 89 => ⟨S2048x1024, .bf16⟩
  | 90 => ⟨S_, .bf16⟩
  | 91 => ⟨S2048x1024, .bf16⟩
  | 92 => ⟨S2048x1024, .bf16⟩
  | 93 => ⟨S_, .bf16⟩
  | 94 => ⟨S2048x1024, .bf16⟩
  | 95 => ⟨S_, .bf16⟩
  | 96 => ⟨S2048x1024, .bf16⟩
  | 97 => ⟨S2048x1024, .bf16⟩
  | 98 => ⟨S2048x1024, .bf16⟩
  | 99 => ⟨S_, .bf16⟩
  | 100 => ⟨S2048x1024, .bf16⟩
  | 101 => ⟨S_, .bf16⟩
  | 102 => ⟨S2048x1024, .bf16⟩
  | 103 => ⟨S2048x1024, .bf16⟩
  | 104 => ⟨S_, .bf16⟩
  | 105 => ⟨S2048x1024, .bf16⟩
  | 106 => ⟨S_, .bf16⟩
  | 107 => ⟨S2048x1024, .bf16⟩
  | 108 => ⟨S2048x1024, .bf16⟩
  | 109 => ⟨S2048x1024, .bf16⟩
  | 110 => ⟨S2048x1024, .bf16⟩
  | 111 => ⟨S2048x1024, .bf16⟩
  | 112 => ⟨S2048x1024, .bf16⟩
  | 113 => ⟨S_, .i32⟩
  | 114 => ⟨S2048x1024, .i32⟩
  | 115 => ⟨S2048x1024, .i32⟩
  | 116 => ⟨S_, .i32⟩
  | 117 => ⟨S2048x1024, .i32⟩
  | 118 => ⟨S2048x1024, .i32⟩
  | 119 => ⟨S_, .i32⟩
  | 120 => ⟨S2048x1024, .i32⟩
  | 121 => ⟨S2048x1024, .i1⟩
  | 122 => ⟨S_, .i32⟩
  | 123 => ⟨S2048x1024, .i32⟩
  | 124 => ⟨S2048x1024, .i32⟩
  | 125 => ⟨S_, .i32⟩
  | 126 => ⟨S2048x1024, .i32⟩
  | 127 => ⟨S2048x1024, .i32⟩
  | _ => ⟨S6x256x4096, .i8⟩

abbrev hbmTy0_1 (i : Nat) : BufTy := match i % 128 with
  | 0 => ⟨S_, .i32⟩
  | 1 => ⟨S2048x1024, .i32⟩
  | 2 => ⟨S2048x1024, .i1⟩
  | 3 => ⟨S_, .i32⟩
  | 4 => ⟨S2048x1024, .i32⟩
  | 5 => ⟨S2048x1024, .i32⟩
  | 6 => ⟨S_, .i32⟩
  | 7 => ⟨S2048x1024, .i32⟩
  | 8 => ⟨S2048x1024, .i32⟩
  | 9 => ⟨S_, .i32⟩
  | 10 => ⟨S2048x1024, .i32⟩
  | 11 => ⟨S2048x1024, .i1⟩
  | 12 => ⟨S_, .i32⟩
  | 13 => ⟨S2048x1024, .i32⟩
  | 14 => ⟨S2048x1024, .i32⟩
  | 15 => ⟨S_, .i32⟩
  | 16 => ⟨S2048x1024, .i32⟩
  | 17 => ⟨S2048x1024, .i32⟩
  | 18 => ⟨S_, .i32⟩
  | 19 => ⟨S2048x1024, .i32⟩
  | 20 => ⟨S2048x1024, .i1⟩
  | 21 => ⟨S_, .bf16⟩
  | 22 => ⟨S2048x1024, .bf16⟩
  | 23 => ⟨S_, .bf16⟩
  | 24 => ⟨S2048x1024, .bf16⟩
  | 25 => ⟨S2048x1024, .bf16⟩
  | 26 => ⟨S_, .bf16⟩
  | 27 => ⟨S2048x1024, .bf16⟩
  | 28 => ⟨S_, .bf16⟩
  | 29 => ⟨S2048x1024, .bf16⟩
  | 30 => ⟨S2048x1024, .bf16⟩
  | 31 => ⟨S2048x1024, .bf16⟩
  | 32 => ⟨S_, .bf16⟩
  | 33 => ⟨S2048x1024, .bf16⟩
  | 34 => ⟨S_, .bf16⟩
  | 35 => ⟨S2048x1024, .bf16⟩
  | 36 => ⟨S2048x1024, .bf16⟩
  | 37 => ⟨S_, .bf16⟩
  | 38 => ⟨S2048x1024, .bf16⟩
  | 39 => ⟨S_, .bf16⟩
  | 40 => ⟨S2048x1024, .bf16⟩
  | 41 => ⟨S2048x1024, .bf16⟩
  | 42 => ⟨S2048x1024, .bf16⟩
  | 43 => ⟨S2048x1024, .bf16⟩
  | 44 => ⟨S_, .bf16⟩
  | 45 => ⟨S2048x1024, .bf16⟩
  | 46 => ⟨S_, .bf16⟩
  | 47 => ⟨S2048x1024, .bf16⟩
  | 48 => ⟨S2048x1024, .bf16⟩
  | 49 => ⟨S_, .bf16⟩
  | 50 => ⟨S2048x1024, .bf16⟩
  | 51 => ⟨S_, .bf16⟩
  | 52 => ⟨S2048x1024, .bf16⟩
  | 53 => ⟨S2048x1024, .bf16⟩
  | 54 => ⟨S2048x1024, .bf16⟩
  | 55 => ⟨S_, .bf16⟩
  | 56 => ⟨S2048x1024, .bf16⟩
  | 57 => ⟨S_, .bf16⟩
  | 58 => ⟨S2048x1024, .bf16⟩
  | 59 => ⟨S2048x1024, .bf16⟩
  | 60 => ⟨S_, .bf16⟩
  | 61 => ⟨S2048x1024, .bf16⟩
  | 62 => ⟨S_, .bf16⟩
  | 63 => ⟨S2048x1024, .bf16⟩
  | 64 => ⟨S2048x1024, .bf16⟩
  | 65 => ⟨S2048x1024, .bf16⟩
  | 66 => ⟨S2048x1024, .bf16⟩
  | 67 => ⟨S2048x1024, .bf16⟩
  | 68 => ⟨S2048x1024, .bf16⟩
  | 69 => ⟨S6x256x2048, .f32⟩
  | 70 => ⟨S6x256x2048, .f32⟩
  | 71 => ⟨S6x256x2048, .f32⟩
  | 72 => ⟨S6x256x2048, .f32⟩
  | 73 => ⟨S6x256x2048, .f32⟩
  | 74 => ⟨S6x256x2048, .f32⟩
  | 75 => ⟨S6x256x2048x1, .f32⟩
  | 76 => ⟨S6x256x2048x1, .f32⟩
  | 77 => ⟨S6x256x2048x2, .f32⟩
  | 78 => ⟨S6x256x4096, .f32⟩
  | 79 => ⟨S4096x64, .f32⟩
  | 80 => ⟨S6x256x4096, .f32⟩
  | 81 => ⟨S_, .f32⟩
  | 82 => ⟨S6x256x4096, .f32⟩
  | 83 => ⟨S6x256x4096, .f32⟩
  | 84 => ⟨S6x256x4096, .f32⟩
  | 85 => ⟨S6x256x4096, .bf16⟩
  | 86 => ⟨S6x256x4096, .f32⟩
  | 87 => ⟨S6x256x64, .f32⟩
  | 88 => ⟨S6x256x64, .f32⟩
  | 89 => ⟨S4096x64, .f32⟩
  | 90 => ⟨S_, .f32⟩
  | 91 => ⟨S4096x64, .f32⟩
  | 92 => ⟨S4096x64, .f32⟩
  | 93 => ⟨S6x256x64, .f32⟩
  | 94 => ⟨S6x256x64, .f32⟩
  | 95 => ⟨S6x256x1024, .f32⟩
  | 96 => ⟨S64x1024, .f32⟩
  | 97 => ⟨S_, .f32⟩
  | 98 => ⟨S64x1024, .f32⟩
  | 99 => ⟨S64x1024, .f32⟩
  | 100 => ⟨S1536x4096, .bf16⟩
  | 101 => ⟨S64x4096, .f32⟩
  | 102 => ⟨S6x64x256, .f32⟩
  | 103 => ⟨S6x64x256, .f32⟩
  | _ => ⟨S6x256x4096, .i8⟩

abbrev hbmTy (i : Nat) : BufTy := match i / 128 with
  | 0 => hbmTy0_0 i
  | 1 => hbmTy0_1 i
  | _ => ⟨S6x256x4096, .i8⟩

abbrev bufTy : (tb : Table) → Fin (tcTables nBuf tb) → BufTy
  | .hbm, ⟨i, _⟩ => hbmTy i
  | .local _ .vmem, ⟨0, _⟩ => ⟨S6x256x4096, .fp8e4m3⟩
  | .local _ .vmem, ⟨1, _⟩ => ⟨S6x256x1024, .fp8e5m2⟩
  | .local _ .vmem, ⟨2, _⟩ => ⟨S6x256x4096, .bf16⟩
  | .local _ .vmem, ⟨3, _⟩ => ⟨S6x256x1024, .bf16⟩
  | _, _ => ⟨S6x256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_cst : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_cst_15 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_cst_18 : Ref sig .tc := ⟨.hbm, 81, rfl⟩
abbrev main_v52 : Ref sig .tc := ⟨.hbm, 82, rfl⟩
abbrev main_cst_19 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_20 : Ref sig .tc := ⟨.hbm, 88, rfl⟩
abbrev main_v57 : Ref sig .tc := ⟨.hbm, 89, rfl⟩
abbrev main_cst_21 : Ref sig .tc := ⟨.hbm, 90, rfl⟩
abbrev main_v58 : Ref sig .tc := ⟨.hbm, 91, rfl⟩
abbrev main_v59 : Ref sig .tc := ⟨.hbm, 92, rfl⟩
abbrev main_cst_22 : Ref sig .tc := ⟨.hbm, 93, rfl⟩
abbrev main_v60 : Ref sig .tc := ⟨.hbm, 94, rfl⟩
abbrev main_cst_23 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_24 : Ref sig .tc := ⟨.hbm, 99, rfl⟩
abbrev main_v64 : Ref sig .tc := ⟨.hbm, 100, rfl⟩
abbrev main_cst_25 : Ref sig .tc := ⟨.hbm, 101, rfl⟩
abbrev main_v65 : Ref sig .tc := ⟨.hbm, 102, rfl⟩
abbrev main_v66 : Ref sig .tc := ⟨.hbm, 103, rfl⟩
abbrev main_cst_26 : Ref sig .tc := ⟨.hbm, 104, rfl⟩
abbrev main_v67 : Ref sig .tc := ⟨.hbm, 105, rfl⟩
abbrev main_cst_27 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_28 : Ref sig .tc := ⟨.hbm, 113, rfl⟩
abbrev main_v74 : Ref sig .tc := ⟨.hbm, 114, rfl⟩
abbrev main_v75 : Ref sig .tc := ⟨.hbm, 115, rfl⟩
abbrev main_c_29 : Ref sig .tc := ⟨.hbm, 116, rfl⟩
abbrev main_v76 : Ref sig .tc := ⟨.hbm, 117, rfl⟩
abbrev main_v77 : Ref sig .tc := ⟨.hbm, 118, rfl⟩
abbrev main_c_30 : Ref sig .tc := ⟨.hbm, 119, rfl⟩
abbrev main_v78 : Ref sig .tc := ⟨.hbm, 120, rfl⟩
abbrev main_v79 : Ref sig .tc := ⟨.hbm, 121, rfl⟩
abbrev main_c_31 : Ref sig .tc := ⟨.hbm, 122, rfl⟩
abbrev main_v80 : Ref sig .tc := ⟨.hbm, 123, rfl⟩
abbrev main_v81 : Ref sig .tc := ⟨.hbm, 124, rfl⟩
abbrev main_c_32 : Ref sig .tc := ⟨.hbm, 125, rfl⟩
abbrev main_v82 : Ref sig .tc := ⟨.hbm, 126, rfl⟩
abbrev main_v83 : Ref sig .tc := ⟨.hbm, 127, rfl⟩
abbrev main_c_33 : Ref sig .tc := ⟨.hbm, 128, rfl⟩
abbrev main_v84 : Ref sig .tc := ⟨.hbm, 129, rfl⟩
abbrev main_v85 : Ref sig .tc := ⟨.hbm, 130, rfl⟩
abbrev main_c_34 : Ref sig .tc := ⟨.hbm, 131, rfl⟩
abbrev main_v86 : Ref sig .tc := ⟨.hbm, 132, rfl⟩
abbrev main_v87 : Ref sig .tc := ⟨.hbm, 133, rfl⟩
abbrev main_c_35 : Ref sig .tc := ⟨.hbm, 134, rfl⟩
abbrev main_v88 : Ref sig .tc := ⟨.hbm, 135, rfl⟩
abbrev main_v89 : Ref sig .tc := ⟨.hbm, 136, rfl⟩
abbrev main_c_36 : Ref sig .tc := ⟨.hbm, 137, rfl⟩
abbrev main_v90 : Ref sig .tc := ⟨.hbm, 138, rfl⟩
abbrev main_v91 : Ref sig .tc := ⟨.hbm, 139, rfl⟩
abbrev main_c_37 : Ref sig .tc := ⟨.hbm, 140, rfl⟩
abbrev main_v92 : Ref sig .tc := ⟨.hbm, 141, rfl⟩
abbrev main_v93 : Ref sig .tc := ⟨.hbm, 142, rfl⟩
abbrev main_c_38 : Ref sig .tc := ⟨.hbm, 143, rfl⟩
abbrev main_v94 : Ref sig .tc := ⟨.hbm, 144, rfl⟩
abbrev main_v95 : Ref sig .tc := ⟨.hbm, 145, rfl⟩
abbrev main_c_39 : Ref sig .tc := ⟨.hbm, 146, rfl⟩
abbrev main_v96 : Ref sig .tc := ⟨.hbm, 147, rfl⟩
abbrev main_v97 : Ref sig .tc := ⟨.hbm, 148, rfl⟩
abbrev main_cst_40 : Ref sig .tc := ⟨.hbm, 149, rfl⟩
abbrev main_v98 : Ref sig .tc := ⟨.hbm, 150, rfl⟩
abbrev main_cst_41 : Ref sig .tc := ⟨.hbm, 151, rfl⟩
abbrev main_v99 : Ref sig .tc := ⟨.hbm, 152, rfl⟩
abbrev main_v100 : Ref sig .tc := ⟨.hbm, 153, rfl⟩
abbrev main_cst_42 : Ref sig .tc := ⟨.hbm, 154, rfl⟩
abbrev main_v101 : Ref sig .tc := ⟨.hbm, 155, rfl⟩
abbrev main_cst_43 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_44 : Ref sig .tc := ⟨.hbm, 160, rfl⟩
abbrev main_v105 : Ref sig .tc := ⟨.hbm, 161, rfl⟩
abbrev main_cst_45 : Ref sig .tc := ⟨.hbm, 162, rfl⟩
abbrev main_v106 : Ref sig .tc := ⟨.hbm, 163, rfl⟩
abbrev main_v107 : Ref sig .tc := ⟨.hbm, 164, rfl⟩
abbrev main_cst_46 : Ref sig .tc := ⟨.hbm, 165, rfl⟩
abbrev main_v108 : Ref sig .tc := ⟨.hbm, 166, rfl⟩
abbrev main_cst_47 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_48 : Ref sig .tc := ⟨.hbm, 172, rfl⟩
abbrev main_v113 : Ref sig .tc := ⟨.hbm, 173, rfl⟩
abbrev main_cst_49 : Ref sig .tc := ⟨.hbm, 174, rfl⟩
abbrev main_v114 : Ref sig .tc := ⟨.hbm, 175, rfl⟩
abbrev main_v115 : Ref sig .tc := ⟨.hbm, 176, rfl⟩
abbrev main_cst_50 : Ref sig .tc := ⟨.hbm, 177, rfl⟩
abbrev main_v116 : Ref sig .tc := ⟨.hbm, 178, rfl⟩
abbrev main_cst_51 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_cst_52 : Ref sig .tc := ⟨.hbm, 183, rfl⟩
abbrev main_v120 : Ref sig .tc := ⟨.hbm, 184, rfl⟩
abbrev main_cst_53 : Ref sig .tc := ⟨.hbm, 185, rfl⟩
abbrev main_v121 : Ref sig .tc := ⟨.hbm, 186, rfl⟩
abbrev main_v122 : Ref sig .tc := ⟨.hbm, 187, rfl⟩
abbrev main_cst_54 : Ref sig .tc := ⟨.hbm, 188, rfl⟩
abbrev main_v123 : Ref sig .tc := ⟨.hbm, 189, rfl⟩
abbrev main_cst_55 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_cst_56 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_57 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_cst_58 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x1024 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KFrame.Runs.lean ====
/- What the three runs of the kernel body share: @main up to the pipelined region, the region's arrays and their blocks, the
   conditions of the body's two `scf.if`s as closed forms of the grid point, where each output window is idle, and the
   staging and scratch memrefs the runs are stated over. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats 0 c).arrAt_in 7 rfl _).trans ((hA c 7).trans (V_main_arg7 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel
/-- Whether output 11's buffer is FRESH at each position `1 ‥ N` — holds nothing the body stored since the region's entry or the
    last write-back (written back at the point before, or idle there and fresh before it) —, as a bitmask, bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x80 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 live: the case stores into it. -/
theorem liveAt0_11_A : ∀ t : Fin cfg0.N, cond0_0 (grid0.coords t) → ¬cond0_1 (grid0.coords t) → cfg0.idle 11 (grid0.coords t) = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem idleAt0_11_C : ∀ t : Fin cfg0.N, ¬cond0_0 (grid0.coords t) → cond0_1 (grid0.coords t) → cfg0.idle 11 (grid0.coords t) = true := by decide +kernel
/-- At the points of case C the pipeline writes output 11's block back. -/
theorem flush0_11_C : ∀ t : Fin cfg0.N, ¬cond0_0 (grid0.coords t) → cond0_1 (grid0.coords t) → (cfg0.win 11).flush t = true := by decide +kernel
/-- At the points of case C, which keeps output 11's prior contents (reads it before covering, or covers it in part), the
    window's buffer is not FRESH: something was stored into it since the region's entry or its last write-back, idle points
    between or not (Lib/Pipeline/TableIdle.lean `Cfg.fresh`, by the table `freshTab0_11`). -/
theorem notFresh0_11_C : ∀ t : Fin cfg0.N, ¬cond0_0 (grid0.coords t) → cond0_1 (grid0.coords t) → cfg0.fresh 11 t.val = false := by
  intro t; rw [fresh0_11_eq t]; revert t; decide +kernel
/-- At the points of case A the printed configuration (`Cfg.idle`) calls output 12 idle: the case stores nothing into it. -/
theorem idleAt0_12_A : ∀ t : Fin cfg0.N, cond0_0 (grid0.coords t) → ¬cond0_1 (grid0.coords t) → cfg0.idle 12 (grid0.coords t) = true := by decide +kernel
/-- At the points of case A the pipeline does not write output 12's block back. -/
theorem noFlush0_12_A : ∀ t : Fin cfg0.N, cond0_0 (grid0.coords t) → ¬cond0_1 (grid0.coords t) → (cfg0.win 12).flush t = false := by decide +kernel
/-- At the points of case B the printed configuration (`Cfg.idle`) calls output 12 idle: the case stores nothing into it. -/
theorem idleAt0_12_B : ∀ t : Fin cfg0.N, ¬cond0_0 (grid0.coords t) → ¬cond0_1 (grid0.coords t) → cfg0.idle 12 (grid0.coords t) = true := by decide +kernel
/-- At the points of case B the pipeline does not write output 12's block back. -/
theorem noFlush0_12_B : ∀ t : Fin cfg0.N, ¬cond0_0 (grid0.coords t) → ¬cond0_1 (grid0.coords t) → (cfg0.win 12).flush t = false := by decide +kernel
/-- At the points of case C the printed configuration (`Cfg.idle`) calls output 12 live: the case stores into it. -/
theorem liveAt0_12_C : ∀ t : Fin cfg0.N, ¬cond0_0 (grid0.coords t) → cond0_1 (grid0.coords t) → cfg0.idle 12 (grid0.coords t) = false := by decide +kernel

/-! ## The kernel body on any staging memrefs: a subtype the run finds -/

/-- One staging buffer of output window 8, through which its contents are stated (`View.read_writes_of_cover`: the
    choice does not matter). -/
abbrev VO0_8 : View sig .tc .vmem S1536x512 .bf16 := (Memref.whole cc0_stg8_0 : Memref sig .tc .vmem S1536x512 .bf16).view
/-- One staging buffer of output window 9, through which its contents are stated (`View.read_writes_of_cover`: the
    choice does not matter). -/
abbrev VO0_9 : View sig .tc .vmem S64x512 .f32 := (Memref.whole cc0_stg9_0 : Memref sig .tc .vmem S64x512 .f32).view
/-- One staging buffer of output window 10, through which its contents are stated (`View.read_writes_of_cover`: the
    choice does not matter). -/
abbrev VO0_10 : View sig .tc .vmem S64x1024 .f32 := (Memref.whole cc0_stg10_0 : Memref sig .tc .vmem S64x1024 .f32).view
/-- One staging buffer of output window 11, through which its contents are stated (`View.read_writes_of_cover`: the
    choice does not matter). -/
abbrev VO0_11 : View sig .tc .vmem S6x64x256 .f32 := (Memref.whole cc0_stg11_0 : Memref sig .tc .vmem S6x64x256 .f32).view
/-- One staging buffer of output window 12, through which its contents are stated (`View.read_writes_of_cover`: the
    choice does not matter). -/
abbrev VO0_12 : View sig .tc .vmem S6x64x256 .f32 := (Memref.whole cc0_stg12_0 : Memref sig .tc .vmem S6x64x256 .f32).view
/-- Each window's current staging memref at point `t`, spelled as the pipeline passes it (`bodyAt0`), and its wholeness. -/
abbrev ms0_0 (t : Fin cfg0.N) : Memref sig .tc .vmem S1536x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S6x64x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S6x64x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1536x1024 .bf16 := Memref.whole cc0_scratch0
abbrev scM0_1 : Memref sig .tc .vmem S1536x256 .bf16 := Memref.whole cc0_scratch1
abbrev scM0_2 : Memref sig .tc .vmem S192x1536 .bf16 := Memref.whole cc0_scratch2
abbrev scM0_3 : Memref sig .tc .vmem S1536x128 .f32 := Memref.whole cc0_scratch3
abbrev scM0_4 : Memref sig .tc .vmem S512x1024 .bf16 := Memref.whole cc0_scratch4
abbrev scM0_5 : Memref sig .tc .vmem S64x1536 .f32 := Memref.whole cc0_scratch5
/-- The scratch `arg14` the kernel carries between points, as a view: what it holds is stated through it. -/
abbrev VS0_0 : View sig .tc .vmem S1536x1024 .bf16 := scM0_0.view
/-- The scratch `arg15` the kernel carries between points, as a view: what it holds is stated through it. -/
abbrev VS0_1 : View sig .tc .vmem S1536x256 .bf16 := scM0_1.view
/-- The scratch `arg16` the kernel carries between points, as a view: what it holds is stated through it. -/
abbrev VS0_2 : View sig .tc .vmem S192x1536 .bf16 := scM0_2.view
/-- The scratch `arg17` the kernel carries between points, as a view: what it holds is stated through it. -/
abbrev VS0_3 : View sig .tc .vmem S1536x128 .f32 := scM0_3.view
/-- The scratch `arg19` the kernel carries between points, as a view: what it holds is stated through it. -/
abbrev VS0_5 : View sig .tc .vmem S64x1536 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.KFrame.RunA.lean ====
/- The whole-body run of the kernel at the grid's first point: the first `scf.if` is taken, the second is not. -/
module

public import proofs.«01_k».proof.Proof.KFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1072000 in
/-- What the body's stores leave in each output's staging memref, as pieces (last first) IN CASE A (`scf.if` 0 taken, `scf.if` 1 not taken: points 0), WITH the
    proof that on whole staging memrefs — the inputs' at their contents, the outputs it leaves idle (10, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) :
    Σ' (L8 : List (View.Piece (Elt F) S1536x512 .bf16)), Σ' (L9 : List (View.Piece (Elt F) S64x512 .f32)), Σ' (L10 : List (View.Piece (Elt F) S64x1024 .f32)), Σ' (L11 : List (View.Piece (Elt F) S6x64x256 .f32)), Σ' (L12 : List (View.Piece (Elt F) S6x64x256 .f32)), Σ' (LS0 : List (View.Piece (Elt F) S1536x1024 .bf16)), Σ' (LS1 : List (View.Piece (Elt F) S1536x256 .bf16)), Σ' (LS2 : List (View.Piece (Elt F) S192x1536 .bf16)), Σ' (LS3 : List (View.Piece (Elt F) S1536x128 .f32)), Σ' (LS5 : List (View.Piece (Elt F) S64x1536 .f32)), { LT4 : List (View.Piece (Elt F) S512x1024 .bf16) //
      ∀ (xi10 : Vec F S64x1024 .f32) (xi12 : Vec F S6x64x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ (∃ d, owns (c : Thread nD τ) arg12 fullShare d) ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LS5)) -∗ K ⟨⟩))
          ⊢ wp frame (wpE (defs₀ (F := F)) Variants.none c none) E (cc0_lora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], ?_, [], ?_, ?_, ?_, ?_, ?_, ?_, fun xi10 xi12 E K => ?run⟩
  case run =>
    simp only [cc0_lora_bwd_eq_skeleton]; unfold cc0_lora_bwd_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Gen

end
-- ==== Proof.KFrame.RunB.lean ====
/- The whole-body run of the kernel at the grid's middle points (1 to 6): neither `scf.if` is taken. -/
module

public import proofs.«01_k».proof.Proof.KFrame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, 3, 4, 5, 6), WITH the
    proof that on whole staging memrefs — the inputs' at their contents, the outputs it leaves idle (10, 11, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) :
    Σ' (L8 : List (View.Piece (Elt F) S1536x512 .bf16)), Σ' (L9 : List (View.Piece (Elt F) S64x512 .f32)), Σ' (L10 : List (View.Piece (Elt F) S64x1024 .f32)), Σ' (L11 : List (View.Piece (Elt F) S6x64x256 .f32)), Σ' (L12 : List (View.Piece (Elt F) S6x64x256 .f32)), Σ' (LS0 : List (View.Piece (Elt F) S1536x1024 .bf16)), Σ' (LS1 : List (View.Piece (Elt F) S1536x256 .bf16)), Σ' (LS2 : List (View.Piece (Elt F) S192x1536 .bf16)), Σ' (LS3 : List (View.Piece (Elt F) S1536x128 .f32)), Σ' (LS5 : List (View.Piece (Elt F) S64x1536 .f32)), { LT4 : List (View.Piece (Elt F) S512x1024 .bf16) //
      ∀ (xi10 : Vec F S64x1024 .f32) (xi11 : Vec F S6x64x256 .f32) (xi12 : Vec F S6x64x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ owns (c : Thread nD τ) arg13 fullShare xi12 ∗ owns (c : Thread nD τ) arg14 fullShare xs0 ∗ owns (c : Thread nD τ) arg15 fullShare xs1 ∗ owns (c : Thread nD τ) arg16 fullShare xs2 ∗ owns (c : Thread nD τ) arg17 fullShare xs3 ∗ (∃ d, owns (c : Thread nD τ) arg18 fullShare d) ∗ owns (c : Thread nD τ) arg19 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ owns (c : Thread nD τ) arg13 fullShare xi12 ∗ owns (c : Thread nD τ) arg14 fullShare xs0 ∗ owns (c : Thread nD τ) arg15 fullShare xs1 ∗ owns (c : Thread nD τ) arg16 fullShare xs2 ∗ owns (c : Thread nD τ) arg17 fullShare xs3 ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LS5)) -∗ K ⟨⟩))
          ⊢ wp frame (wpE (defs₀ (F := F)) Variants.none c none) E (cc0_lora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], [], [], [], [], [], [], ?_, ?_, fun xi10 xi11 xi12 E K => ?run⟩
  case run =>
    simp only [cc0_lora_bwd_eq_skeleton]; unfold cc0_lora_bwd_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hf12; obtain rfl := harg14.eq_unread hfs0; obtain rfl := harg15.eq_unread hfs1; obtain rfl := harg16.eq_unread hfs2; obtain rfl := harg17.eq_unread hfs3; obtain rfl := harg19.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]
    · iexists _; isplitr; · ipureintro; exact harg17.read_unread _
      iexact HS3
    isplitl [HS4]; · iexists _; iexact HS4
    iexists _; iexact HS5

end Cert.KernelIdeal.Gen

end
-- ==== Proof.KFrame.RunC.lean ====
/- The whole-body run of the kernel at the grid's last point: the second `scf.if` is taken, the first is not. -/
module

public import proofs.«01_k».proof.Proof.KFrame.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 7), WITH the
    proof that on whole staging memrefs — the inputs' at their contents, the outputs it reads before covering (11) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) :
    Σ' (L8 : List (View.Piece (Elt F) S1536x512 .bf16)), Σ' (L9 : List (View.Piece (Elt F) S64x512 .f32)), Σ' (L10 : List (View.Piece (Elt F) S64x1024 .f32)), Σ' (L11 : List (View.Piece (Elt F) S6x64x256 .f32)), Σ' (L12 : List (View.Piece (Elt F) S6x64x256 .f32)), Σ' (LS0 : List (View.Piece (Elt F) S1536x1024 .bf16)), Σ' (LS1 : List (View.Piece (Elt F) S1536x256 .bf16)), Σ' (LS2 : List (View.Piece (Elt F) S192x1536 .bf16)), Σ' (LS3 : List (View.Piece (Elt F) S1536x128 .f32)), Σ' (LS5 : List (View.Piece (Elt F) S64x1536 .f32)), { LT4 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo11 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ (∃ d, owns (c : Thread nD τ) arg18 fullShare d) ∗ owns (c : Thread nD τ) arg19 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xo11 ∗ (∃ f, arg13.view.loc (c : Thread nD τ) ↦[arg13.view.set]{fullShare} arg13.view.writes (Elt F) f L12) ∗ owns (c : Thread nD τ) arg14 fullShare xs0 ∗ owns (c : Thread nD τ) arg15 fullShare xs1 ∗ owns (c : Thread nD τ) arg16 fullShare xs2 ∗ owns (c : Thread nD τ) arg17 fullShare xs3 ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LS5)) -∗ K ⟨⟩))
          ⊢ wp frame (wpE (defs₀ (F := F)) Variants.none c none) E (cc0_lora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, [], ?_, [], [], [], [], ?_, ?_, fun E K => ?run⟩
  case run =>
    simp only [cc0_lora_bwd_eq_skeleton]; unfold cc0_lora_bwd_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%fs0, %hfs0, HS0⟩, ⟨%fs1, %hfs1, HS1⟩, ⟨%fs2, %hfs2, HS2⟩, ⟨%fs3, %hfs3, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hf11; obtain rfl := harg14.eq_unread hfs0; obtain rfl := harg15.eq_unread hfs1; obtain rfl := harg16.eq_unread hfs2; obtain rfl := harg17.eq_unread hfs3; obtain rfl := harg19.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]
    · iexists _; isplitr; · ipureintro; exact harg12.read_unread _
      iexact H11
    isplitl [H12]; · iexists _; iexact H12
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]
    · iexists _; isplitr; · ipureintro; exact harg17.read_unread _
      iexact HS3
    isplitl [HS4]; · iexists _; iexact HS4
    iexists _; iexact HS5

end Cert.KernelIdeal.Gen

end
-- ==== Proof.KFrame.Outs.lean ====
/- What one run of the kernel body leaves in each output's staging buffer and in each scratch buffer, per case: the stores of
   the run cover the buffer, and its contents are those stores read back. -/
module

public import proofs.«01_k».proof.Proof.KFrame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole)

/-- Case A's pieces for output 8 tile its block (6 stores of `S256x512`, checked by the kernel's evaluation: Lib/Ring.lean `Piece.tiledL`, linear in the pieces, through a loop's `@[irreducible]` trip theorem too), so they cover it. -/
theorem cover0_A_8 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S1536x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).1 S256x512.size (by sl_kernel_rfl) y

/-- What case A leaves in output 8's staging buffer: its pieces read back over junk. -/
def out0_A_8 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S1536x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).1)

/-- Case A's pieces for output 9 tile its block (1 store of `S64x512`, checked by the kernel's evaluation: Lib/Ring.lean `Piece.tiledL`, linear in the pieces, through a loop's `@[irreducible]` trip theorem too), so they cover it. -/
theorem cover0_A_9 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.1 S64x512.size (by sl_kernel_rfl) y

/-- What case A leaves in output 9's staging buffer: its pieces read back over junk. -/
def out0_A_9 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S64x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.1)

/-- Case A stores nothing into output 10 (the window is idle at its points and not written back there):
    no pieces — a placeholder (junk read back) that nothing consults, since at these points the window is neither
    written back nor read at the next point (Lib/Pipeline.lean "Idle points"). -/
def out0_A_10 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S64x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.1)

/-- Case A's pieces for output 11 tile its block (6 stores of `S1x64x256`, checked by the kernel's evaluation: Lib/Ring.lean `Piece.tiledL`, linear in the pieces, through a loop's `@[irreducible]` trip theorem too), so they cover it. -/
theorem cover0_A_11 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S6x64x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.1 S1x64x256.size (by sl_kernel_rfl) y

/-- What case A leaves in output 11's staging buffer: its pieces read back over junk. -/
def out0_A_11 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S6x64x256 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.1)

/-- Case A stores nothing into output 12 (the window is idle at its points and not written back there):
    no pieces — a placeholder (junk read back) that nothing consults, since at these points the window is neither
    written back nor read at the next point (Lib/Pipeline.lean "Idle points"). -/
def out0_A_12 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S6x64x256 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.1)

/-- Case A's pieces for scratch `arg14`, which the kernel carries between points, cover it: 6 pieces of `S256x1024` tiling it (Lib/Ring.lean `Piece.tiledL`). -/
theorem scover0_A_0 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S1536x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.1 S256x1024.size (by sl_kernel_rfl) y

/-- What case A leaves in scratch `arg14`: its pieces read back over junk. -/
def sout0_A_0 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S1536x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.1)

/-- Case A's pieces for scratch `arg15`, which the kernel carries between points, cover it: 6 pieces of `S256x256` tiling it (Lib/Ring.lean `Piece.tiledL`). -/
theorem scover0_A_1 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.1 S256x256.size (by sl_kernel_rfl) y

/-- What case A leaves in scratch `arg15`: its pieces read back over junk. -/
def sout0_A_1 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S1536x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.1)

/-- Case A's pieces for scratch `arg16`, which the kernel carries between points, cover it: 6 pieces of `S192x256` tiling it (Lib/Ring.lean `Piece.tiledL`). -/
theorem scover0_A_2 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S192x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.1 S192x256.size (by sl_kernel_rfl) y

/-- What case A leaves in scratch `arg16`: its pieces read back over junk. -/
def sout0_A_2 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S192x1536 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.1)

/-- Case A's pieces for scratch `arg17`, which the kernel carries between points, cover it: 6 pieces of `S256x128` tiling it (Lib/Ring.lean `Piece.tiledL`). -/
theorem scover0_A_3 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S1536x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.2.1 S256x128.size (by sl_kernel_rfl) y

/-- What case A leaves in scratch `arg17`: its pieces read back over junk. -/
def sout0_A_3 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S1536x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.2.1)

/-- Case A's pieces for scratch `arg19`, which the kernel carries between points, cover it: 2 pieces of `S64x1536` tiling it (Lib/Ring.lean `Piece.tiledL`). -/
theorem scover0_A_5 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (y : S64x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.2.2.1 S64x1536.size (by sl_kernel_rfl) y

/-- What case A leaves in scratch `arg19`: its pieces read back over junk. -/
def sout0_A_5 (hc0 : cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) : Vec F S64x1536 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.2.2.1)

/-- Case B's pieces for output 8 tile its block (6 stores of `S256x512`, checked by the kernel's evaluation: Lib/Ring.lean `Piece.tiledL`, linear in the pieces, through a loop's `@[irreducible]` trip theorem too), so they cover it. -/
theorem cover0_B_8 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) (y : S1536x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).1 S256x512.size (by sl_kernel_rfl) y

/-- What case B leaves in output 8's staging buffer: its pieces read back over junk. -/
def out0_B_8 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S1536x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).1)

/-- Case B's pieces for output 9 tile its block (1 store of `S64x512`, checked by the kernel's evaluation: Lib/Ring.lean `Piece.tiledL`, linear in the pieces, through a loop's `@[irreducible]` trip theorem too), so they cover it. -/
theorem cover0_B_9 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) (y : S64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.1 S64x512.size (by sl_kernel_rfl) y

/-- What case B leaves in output 9's staging buffer: its pieces read back over junk. -/
def out0_B_9 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S64x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.1)

/-- Case B stores nothing into output 10 (the window is idle at its points and not written back there):
    no pieces — a placeholder (junk read back) that nothing consults, since at these points the window is neither
    written back nor read at the next point (Lib/Pipeline.lean "Idle points"). -/
def out0_B_10 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S64x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.2.1)

/-- Case B stores nothing into output 11 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_11 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) (xo11 : Vec F S6x64x256 .f32) : Vec F S6x64x256 .f32 := xo11

/-- Case B stores nothing into output 12 (the window is idle at its points and not written back there):
    no pieces — a placeholder (junk read back) that nothing consults, since at these points the window is neither
    written back nor read at the next point (Lib/Pipeline.lean "Idle points"). -/
def out0_B_12 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S6x64x256 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.2.2.2.1)

/-- Case B stores nothing into scratch `arg14`: it holds what the point before left. -/
def sout0_B_0 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S1536x1024 .bf16 := xs0

/-- Case B stores nothing into scratch `arg15`: it holds what the point before left. -/
def sout0_B_1 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S1536x256 .bf16 := xs1

/-- Case B stores nothing into scratch `arg16`: it holds what the point before left. -/
def sout0_B_2 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S192x1536 .bf16 := xs2

/-- Case B stores nothing into scratch `arg17`: it holds what the point before left. -/
def sout0_B_3 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S1536x128 .f32 := xs3

/-- Case B's pieces for scratch `arg19`, which the kernel carries between points, cover it: 1 piece of `S64x1536` tiling it (Lib/Ring.lean `Piece.tiledL`). -/
theorem scover0_B_5 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) (y : S64x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.2.2.2.2.2.2.2.2.1 S64x1536.size (by sl_kernel_rfl) y

/-- What case B leaves in scratch `arg19`: its pieces read back over junk. -/
def sout0_B_5 (hc0 : ¬cond0_0 i) (hc1 : ¬cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xs0 : Vec F S1536x1024 .bf16) (xs1 : Vec F S1536x256 .bf16) (xs2 : Vec F S192x1536 .bf16) (xs3 : Vec F S1536x128 .f32) (xs5 : Vec F S64x1536 .f32) : Vec F S64x1536 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs0 xs1 xs2 xs3 xs5).2.2.2.2.2.2.2.2.2.1)

/-- Case C's pieces for output 8 tile its block (6 stores of `S256x512`, checked by the kernel's evaluation: Lib/Ring.lean `Piece.tiledL`, linear in the pieces, through a loop's `@[irreducible]` trip theorem too), so they cover it. -/
theorem cover0_C_8 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) (y : S1536x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).1 S256x512.size (by sl_kernel_rfl) y

/-- What case C leaves in output 8's staging buffer: its pieces read back over junk. -/
def out0_C_8 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S1536x512 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).1)

/-- Case C's pieces for output 9 tile its block (1 store of `S64x512`, checked by the kernel's evaluation: Lib/Ring.lean `Piece.tiledL`, linear in the pieces, through a loop's `@[irreducible]` trip theorem too), so they cover it. -/
theorem cover0_C_9 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) (y : S64x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.1 S64x512.size (by sl_kernel_rfl) y

/-- What case C leaves in output 9's staging buffer: its pieces read back over junk. -/
def out0_C_9 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S64x512 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.1)

/-- Case C's pieces for output 10 tile its block (1 store of `S64x1024`, checked by the kernel's evaluation: Lib/Ring.lean `Piece.tiledL`, linear in the pieces, through a loop's `@[irreducible]` trip theorem too), so they cover it. -/
theorem cover0_C_10 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) (y : S64x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.1 S64x1024.size (by sl_kernel_rfl) y

/-- What case C leaves in output 10's staging buffer: its pieces read back over junk. -/
def out0_C_10 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S64x1024 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.1)

/-- Case C stores nothing into output 11, a live window: its staging buffer holds what the point before left. -/
def out0_C_11 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S6x64x256 .f32 := xo11

/-- Case C's pieces for output 12 tile its block (6 stores of `S1x64x256`, checked by the kernel's evaluation: Lib/Ring.lean `Piece.tiledL`, linear in the pieces, through a loop's `@[irreducible]` trip theorem too), so they cover it. -/
theorem cover0_C_12 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) (y : S6x64x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.2.2.1 S1x64x256.size (by sl_kernel_rfl) y

/-- What case C leaves in output 12's staging buffer: its pieces read back over junk. -/
def out0_C_12 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S6x64x256 .f32 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.2.2.1)

/-- Case C stores nothing into scratch `arg14`: it holds what the point before left. -/
def sout0_C_0 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S1536x1024 .bf16 := xs0

/-- Case C stores nothing into scratch `arg15`: it holds what the point before left. -/
def sout0_C_1 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S1536x256 .bf16 := xs1

/-- Case C stores nothing into scratch `arg16`: it holds what the point before left. -/
def sout0_C_2 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S192x1536 .bf16 := xs2

/-- Case C stores nothing into scratch `arg17`: it holds what the point before left. -/
def sout0_C_3 (c : Dev nD) (i : grid0.Coords) (arg1 : Memref sig .tc .vmem S1536x512 .fp8e4m3) (harg1 : arg1.IsWhole) (arg2 : Memref sig .tc .vmem S6x256 .f32) (harg2 : arg2.IsWhole) (arg3 : Memref sig .tc .vmem S1536x1024 .fp8e5m2) (harg3 : arg3.IsWhole) (arg4 : Memref sig .tc .vmem S6x256 .f32) (harg4 : arg4.IsWhole) (arg5 : Memref sig .tc .vmem S256x1024 .i8) (harg5 : arg5.IsWhole) (arg6 : Memref sig .tc .vmem S1x8x1024 .bf16) (harg6 : arg6.IsWhole) (arg7 : Memref sig .tc .vmem S64x512 .bf16) (harg7 : arg7.IsWhole) (arg8 : Memref sig .tc .vmem S64x1024 .bf16) (harg8 : arg8.IsWhole) (arg9 : Memref sig .tc .vmem S1536x512 .bf16) (harg9 : arg9.IsWhole) (arg10 : Memref sig .tc .vmem S64x512 .f32) (harg10 : arg10.IsWhole) (arg11 : Memref sig .tc .vmem S64x1024 .f32) (harg11 : arg11.IsWhole) (arg12 : Memref sig .tc .vmem S6x64x256 .f32) (harg12 : arg12.IsWhole) (arg13 : Memref sig .tc .vmem S6x64x256 .f32) (harg13 : arg13.IsWhole) (arg14 : Memref sig .tc .vmem S1536x1024 .bf16) (harg14 : arg14.IsWhole) (arg15 : Memref sig .tc .vmem S1536x256 .bf16) (harg15 : arg15.IsWhole) (arg16 : Memref sig .tc .vmem S192x1536 .bf16) (harg16 : arg16.IsWhole) (arg17 : Memref sig .tc .vmem S1536x128 .f32) (harg17 : arg17.IsWhole) (arg18 : Memref sig .tc .vmem S512x1024 .bf16) (harg18 : arg18.IsWhole) (arg19 : Memref sig .tc .vmem S64x1536 .f32) (harg19 : arg19.IsWhole) (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S1536x128 .f32 := xs3

/-- Case C's pieces for scratch `arg19`, which the kernel carries between points, cover it: 1 piece of `S64x1536` tiling it (Lib/Ring.lean `Piece.tiledL`). -/
theorem scover0_C_5 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) (y : S64x1536.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.2.2.2.2.2.2.2.1 S64x1536.size (by sl_kernel_rfl) y

/-- What case C leaves in scratch `arg19`: its pieces read back over junk. -/
def sout0_C_5 (hc0 : ¬cond0_0 i) (hc1 : cond0_1 i)
    (x0 : Vec F S1536x512 .fp8e4m3) (x1 : Vec F S6x256 .f32) (x2 : Vec F S1536x1024 .fp8e5m2) (x3 : Vec F S6x256 .f32) (x4 : Vec F S256x1024 .i8) (x5 : Vec F S1x8x1024 .bf16) (x6 : Vec F S64x512 .bf16) (x7 : Vec F S64x1024 .bf16) (xo11 : Vec F S6x64x256 .f32) (xs0 : Vec F S1536x1024 .bf16) (xs1 : Vec F S1536x256 .bf16) (xs2 : Vec F S192x1536 .bf16) (xs3 : Vec F S1536x128 .f32) (xs5 : Vec F S64x1536 .f32) : Vec F S64x1536 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo11 xs0 xs1 xs2 xs3 xs5).2.2.2.2.2.2.2.2.2.1)

end Cert.KernelIdeal.Gen

end
-- ==== Proof.KFrame.At.lean ====
/- What the outputs' staging buffers and the carried scratch hold after each grid point, and the proof data of the pipeline. -/
module

public import proofs.«01_k».proof.Proof.KFrame.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1536x512 .bf16 × Vec F S64x512 .f32 × Vec F S64x1024 .f32 × Vec F S6x64x256 .f32 × Vec F S6x64x256 .f32 × Vec F S1536x1024 .bf16 × Vec F S1536x256 .bf16 × Vec F S192x1536 .bf16 × Vec F S1536x128 .f32 × Vec F S64x1536 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 8 = 7 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (outsAt0 c n (Nat.lt_of_succ_lt hn)).2.2.2.1, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2)

/-- `outsAt0` at a point of case A: that case's contents. -/
theorem outsAt0_A (c : Dev nD) (t : Fin cfg0.N) (h0 : t.val % 8 = 0) (h1 : ¬t.val % 8 = 7) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (outsAt0 m c (t.val - 1) (Nat.lt_of_le_of_lt (Nat.sub_le _ _) t.isLt)).2.2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2.1) ∗ owns (c : Thread nD τ) scM0_3 fullShare ((outsAt0 m c n hn).2.2.2.2.2.2.2.2.1) ∗ (∃ d, owns (c : Thread nD τ) scM0_4 fullShare d) ∗ owns (c : Thread nD τ) scM0_5 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2.1) ∗ owns (c : Thread nD τ) scM0_3 fullShare ((outsAt0 m c n hn).2.2.2.2.2.2.2.2.1) ∗ (∃ d, owns (c : Thread nD τ) scM0_4 fullShare d) ∗ owns (c : Thread nD τ) scM0_5 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2.1) ∗ owns (c : Thread nD τ) scM0_2 fullShare ((outsAt0 m c (n - 1) (by omega)).2.2.2.2.2.2.2.1) ∗ owns (c : Thread nD τ) scM0_3 fullShare ((outsAt0 m c (n - 1) (by omega)).2.2.2.2.2.2.2.2.1) ∗ (∃ d, owns (c : Thread nD τ) scM0_4 fullShare d) ∗ owns (c : Thread nD τ) scM0_5 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 11's contents CARRY through the points that leave it idle: at such a point, its buffer not fresh, the proof data's
    `after` is the point before's (the case there stores nothing into the window and its term says so; a case that stores
    into it is not idle there by `liveAt0_11_κ`) — the hypothesis of Lib/Pipeline/TableIdle.lean `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 8 := lt_of_lt_of_eq t.isLt (show cfg0.N = 8 from N_0)
  rw [after0_11, after0_11]
  by_cases h0 : t.val % 8 = 0
  · by_cases h1 : t.val % 8 = 7
    · exfalso; omega
    · rw [liveAt0_11_A t ((hcond0_0 t).mpr h0) (fun h => h1 ((hcond0_1 t).mp h))] at hi
      exact absurd hi Bool.false_ne_true
  · by_cases h1 : t.val % 8 = 7
    · rw [outsAt0_C m c t h0 h1]
      dsimp only
      unfold out0_C_11
      rfl
    · rw [outsAt0_B m c t h0 h1]
      dsimp only
      unfold out0_B_11
      rfl
/-- At a point of case C output 11's current staging buffer holds what the point before left: the buffer is not fresh
    there (`notFresh0_11_C`: stored into since the region's entry or the last write-back, carried through the points that
    leave it idle by `hcarry0_11`; Lib/Pipeline/TableIdle.lean `Dat.before_out_traj`). -/
theorem before0_11_C (c : Dev nD) (t : Fin cfg0.N) (h0 : ¬t.val % 8 = 0) (h1 : t.val % 8 = 7) (d) :
    (dats m 0 c).before 11 t d = (outsAt0 m c (t.val - 1) (Nat.lt_of_le_of_lt (Nat.sub_le _ _) t.isLt)).2.2.2.1 := by
  rw [Dat.before_out_traj _ 11 rfl (fun _ _ => rfl) (hcarry0_11 m c) t.val t rfl d,
    if_neg (by rw [notFresh0_11_C t (fun h => h0 ((hcond0_0 t).mp h)) ((hcond0_1 t).mpr h1)]; exact Bool.false_ne_true)]
  dsimp only [dats]

end Cert.KernelIdeal.Gen

end
-- ==== Proof.KFrame.Body.lean ====
/- The body obligation at a generic grid point, the run of @main and the frame of the idealized kernel. -/
module

public import proofs.«01_k».proof.Proof.KFrame.At
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_8 out0_A_9 out0_A_11 sout0_A_0 sout0_A_1 sout0_A_2 sout0_A_3 sout0_A_5; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexact H10
        isplitl [H11]; · iexists _; iexact H11
        isplitl [H12]; · iexact H12
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, ⟨%e8, H8⟩, ⟨%e9, H9⟩, H10, ⟨%e11, H11⟩, H12, ⟨%es0, HS0⟩, ⟨%es1, HS1⟩, ⟨%es2, HS2⟩, ⟨%es3, HS3⟩, ⟨%fT4, HS4⟩, ⟨%es5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            unfold owns; iexists _; isplitr
            swap; · iexact HS5
            ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _)
        isplitl [H10]; · iexists _; iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
        iexists _; iexact H12
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      rw [show (dats m 0 c).leavesExact 11 t = owns (c : Thread nD τ) (ms0_11 t) fullShare ((dats m 0 c).after 11 t) from by
      unfold Dat.leavesExact; rw [idleAt0_11_C t (fun h => h0 ((hcond0_0 t).mp h)) ((hcond0_1 t).mpr h1), flush0_11_C t (fun h => h0 ((hcond0_0 t).mp h)) ((hcond0_1 t).mpr h1)], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1)], after0_12]
      by_cases hz : t.val = 0
      · exfalso; have hN : t.val < 8 := lt_of_lt_of_eq t.isLt (show cfg0.N = 8 from N_0); omega
      · rw [PhiS_castSucc m c t, PhiS_pos m c _ _ hz]
        rw [outsAt0_C m c t h0 h1]
        simp only [before0_11_C m c t h0 h1]
        unfold out0_C_8 out0_C_9 out0_C_10 out0_C_11 out0_C_12 sout0_C_0 sout0_C_1 sout0_C_2 sout0_C_3 sout0_C_5; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _ _ _).2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, ⟨%e8, H8⟩, ⟨%e9, H9⟩, ⟨%e10, H10⟩, H11, ⟨%e12, H12⟩, HS0, HS1, HS2, HS3, ⟨%fT4, HS4⟩, ⟨%es5, HS5⟩⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexists _; unfold owns; iexists _; isplitr
              swap; · iexact HS4
              ipureintro; rfl
            unfold owns; iexists _; isplitr
            swap; · iexact HS5
            ipureintro; exact View.read_writes_of_cover _ _ _ _ _ (scover0_C_5 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _ _)
        isplitl [H11]; · iexact H11
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        rw [outsAt0_B m c t h0 h1]
        unfold out0_B_8 out0_B_9 sout0_B_0 sout0_B_1 sout0_B_2 sout0_B_3 sout0_B_5; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _).2.2.2.2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, ⟨%e8, H8⟩, ⟨%e9, H9⟩, H10, H11, H12, HS0, HS1, HS2, HS3, ⟨%fT4, HS4⟩, ⟨%es5, HS5⟩⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexists _; unfold owns; iexists _; isplitr
              swap; · iexact HS4
              ipureintro; rfl
            unfold owns; iexists _; isplitr
            swap; · iexact HS5
            ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _ _)
        isplitl [H10]; · iexists _; iexact H10
        isplitl [H11]; · iexists _; iexact H11
        iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.KernelFrame.lean ====
/- The frame of the kernel, from the frame of its idealization: no operation was rewritten, so the two programs are the same
   text under two names, and their body tables are equal entry by entry. -/
module

public import proofs.«01_k».proof.Defs
public import proofs.«01_k».proof.Proof.Gen.Kernel
public import proofs.«01_k».proof.Proof.KFrame.Body

@[expose] public section

set_option maxRecDepth 16384

noncomputable section

namespace Cert.Proof

open Idealize.ShloMosaic Idealize.SL.Sem

/-- The two body tables are equal. -/
theorem defs₀_eq : @Cert.Kernel.defs₀ Bits _ _ = @Cert.KernelIdeal.defs₀ Bits _ _ := by
  unfold Cert.Kernel.defs₀ Cert.KernelIdeal.defs₀
  refine congrArg Defs.onTc ?_
  funext l a
  have h : l = 0 := Subsingleton.elim (α := Fin 1) l 0
  subst h
  rfl

/-- The two programs' tables of functions are equal. -/
theorem defs_eq : @Cert.Kernel.defs Bits _ _ = @Cert.KernelIdeal.defs Bits _ _ :=
  congrArg (Pipeline.defs (Cert.KernelIdeal.pcfgs (F := Bits))) defs₀_eq

theorem kernel_frame : Cert.quiescent_Kernel (hKernel := Cert.Kernel.Gen.facts) := fun m ρ _ => by
  rw [defs_eq]
  exact Cert.KernelIdeal.Gen.frame (F := Bits) m ρ

end Cert.Proof

end
-- ==== Proof.Value.Spec.lean ====
/- What the kernel's results are, over the arrays its call reads: the operands as functions into the extended reals, and
   the sums over them that the results are made of. Row `p` of the flattened batch stands for batch `p / 256`, position
   `p % 256`. -/
module

public import proofs.«01_k».proof.Proof.KFrame.At
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)

/-- The number two as the program spells it. -/
def two : EReal := Ideal.ofBits .f32 1073741824#32

/-- The activations, one row per position of the flattened batch. -/
def X (p : Fin 1536) (n : Fin 4096) : EReal := (show FVec Ideal S1536x4096 .fp8e4m3 from V m c main_v3) (ix2 p n)

/-- The incoming gradient, one row per position of the flattened batch. -/
def DY (p : Fin 1536) (o : Fin 1024) : EReal := (show FVec Ideal S1536x1024 .fp8e5m2 from V m c main_v4) (ix2 p o)

/-- The scale of the activations' row `p`. -/
def XS (p : Fin 1536) : EReal :=
  (show FVec Ideal S6x256 .f32 from V m c main_arg1) (ix2 ⟨p / 256, by omega⟩ ⟨p % 256, by omega⟩)

/-- The scale of the gradient's row `p`. -/
def DS (p : Fin 1536) : EReal :=
  (show FVec Ideal S6x256 .f32 from V m c main_arg3) (ix2 ⟨p / 256, by omega⟩ ⟨p % 256, by omega⟩)

/-- The first adapter, transposed. -/
def A (r : Fin 64) (n : Fin 4096) : EReal := (show FVec Ideal S64x4096 .bf16 from V m c main_v5) (ix2 r n)

/-- The second adapter. -/
def B (r : Fin 64) (o : Fin 1024) : EReal := (show FVec Ideal S64x1024 .bf16 from V m c main_arg7) (ix2 r o)

/-- The gradient through the second adapter, before its scale. -/
def traw (r : Fin 64) (p : Fin 1536) : EReal := ∑ o : Fin 1024, B m c r o * DY m c p o

/-- The activations through the first adapter, before their scale. -/
def xaraw (r : Fin 64) (p : Fin 1536) : EReal := ∑ n : Fin 4096, A m c r n * X m c p n

/-- The blocks the windows name, at every grid point. -/
theorem idx : ∀ t : Fin cfg0.N, win0_0.index t = ![0, t.val] ∧ win0_1.index t = ![0, 0] ∧ win0_2.index t = ![0, 0]
    ∧ win0_3.index t = ![0, 0] ∧ win0_4.index t = ![t.val, 0] ∧ win0_5.index t = ![t.val, 0, 0]
    ∧ win0_6.index t = ![0, t.val] ∧ win0_7.index t = ![0, 0] ∧ win0_8.index t = ![0, t.val]
    ∧ win0_9.index t = ![0, t.val] ∧ win0_10.index t = ![0, 0] ∧ win0_11.index t = ![0, 0, 0]
    ∧ win0_12.index t = ![0, 0, 0] :=
  (by decide +kernel : ∀ t : Fin grid0.N, _)

/-- The gradient's block is the whole array. -/
theorem blk_dy (t : Fin cfg0.N) (p : Fin 1536) (o : Fin 1024) :
    (show FVec Ideal S1536x1024 .fp8e5m2 from iblk m c 2 t) (ix2 p o) = DY m c p o := by
  unfold DY; blk_ext [iblk, idx t]

/-- The second adapter's block is the whole array. -/
theorem blk_b (t : Fin cfg0.N) (r : Fin 64) (o : Fin 1024) :
    (show FVec Ideal S64x1024 .bf16 from iblk m c 7 t) (ix2 r o) = B m c r o := by
  unfold B; blk_ext [iblk, idx t]

/-- The gradient's scales' block is the whole array. -/
theorem blk_ds (t : Fin cfg0.N) (b : Fin 6) (s : Fin 256) (p : Fin 1536) (h : (p : ℕ) = 256 * b + s) :
    (show FVec Ideal S6x256 .f32 from iblk m c 3 t) (ix2 b s) = DS m c p := by
  unfold DS; blk_ext [iblk, idx t]

/-- The activations' scales' block is the whole array. -/
theorem blk_xs (t : Fin cfg0.N) (b : Fin 6) (s : Fin 256) (p : Fin 1536) (h : (p : ℕ) = 256 * b + s) :
    (show FVec Ideal S6x256 .f32 from iblk m c 1 t) (ix2 b s) = XS m c p := by
  unfold XS; blk_ext [iblk, idx t]

/-- The activations' block at point `t`: 512 columns. -/
theorem blk_x (t : Fin cfg0.N) (p : Fin 1536) (l : Fin 512) (n : Fin 4096) (h : (n : ℕ) = t * 512 + l) :
    (show FVec Ideal S1536x512 .fp8e4m3 from iblk m c 0 t) (ix2 p l) = X m c p n := by
  unfold X; blk_ext [iblk, idx t]

/-- The first adapter's block at point `t`: 512 columns. -/
theorem blk_a (t : Fin cfg0.N) (r : Fin 64) (l : Fin 512) (n : Fin 4096) (h : (n : ℕ) = t * 512 + l) :
    (show FVec Ideal S64x512 .bf16 from iblk m c 6 t) (ix2 r l) = A m c r n := by
  unfold A; blk_ext [iblk, idx t]

/-- A placed index of a unit rectangle of rank two, by its coordinates. -/
theorem unit_idx {A B a b o p : ℕ} (inb) (j : (Shape.mk 2 ![a, b]).Idx) (i : Fin A) (k : Fin B)
    (hi : (i : ℕ) = o + (j 0 : ℕ)) (hk : (k : ℕ) = p + (j 1 : ℕ)) :
    (Rect.unit (s := Shape.mk 2 ![A, B]) ![o, p] ![a, b] inb).idx j = ix2 i k := by
  funext q
  refine Fin.ext ((Rect.idx_unit_val _ _ _ j q).trans ?_)
  match q with
  | 0 => exact hi.symm
  | 1 => exact hk.symm

/-- A load through a unit rectangle of rank two, at an index, by its coordinates. -/
theorem ld_unit {A B a b o p : ℕ} {e : EltTy} (f : (Shape.mk 2 ![A, B]).Idx → Elt Ideal e) (inb)
    (j : (Shape.mk 2 ![a, b]).Idx) (i : Fin A) (k : Fin B)
    (hi : (i : ℕ) = o + (j 0 : ℕ)) (hk : (k : ℕ) = p + (j 1 : ℕ)) :
    View.ld (Val := Elt Ideal) f (Rect.unit (s := Shape.mk 2 ![A, B]) ![o, p] ![a, b] inb) j = f (ix2 i k) :=
  congrArg f (unit_idx inb j i k hi hk)

end Cert.KernelIdeal.Val

end
-- ==== Proof.Value.Scratch.lean ====
/- What the first grid point leaves in the results and the scratch arrays it fills. -/
module

public import proofs.«01_k».proof.Proof.Value.Spec

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)

/-- A value cut in three parts and stacked, where it is finite: the first part is the value, the others are zero. -/
theorem parts (v : Fin 64 → EReal) (hv : ∀ r, v r - v r = 0) (k : ℕ) (h3 : k - 64 - 64 < 64) :
    (if h : k < 64 then v ⟨k, h⟩ else if h : k - 64 < 64 then v ⟨k - 64, h⟩ - v ⟨k - 64, h⟩
      else v ⟨k - 64 - 64, h3⟩ - v ⟨k - 64 - 64, h3⟩ - (v ⟨k - 64 - 64, h3⟩ - v ⟨k - 64 - 64, h3⟩))
      = if h : k < 64 then v ⟨k, h⟩ else (0 : EReal) := by
  split
  · rfl
  · split
    · exact hv _
    · rw [hv, sub_zero]

/-- The same with a fourth part that is zero. -/
theorem parts' (v : Fin 64 → EReal) (hv : ∀ r, v r - v r = 0) (k : ℕ) :
    (if h : k < 64 then v ⟨k, h⟩ else if h : k - 64 < 64 then v ⟨k - 64, h⟩ - v ⟨k - 64, h⟩
      else if h : k - 64 - 64 < 64 then v ⟨k - 64 - 64, h⟩ - v ⟨k - 64 - 64, h⟩ - (v ⟨k - 64 - 64, h⟩ - v ⟨k - 64 - 64, h⟩)
      else 0) = if h : k < 64 then v ⟨k, h⟩ else (0 : EReal) := by
  split
  · rfl
  · split
    · exact hv _
    · split
      · rw [hv, sub_zero]
      · rfl

/-- A stacked piece for `dA`, over the value it is cut from. -/
theorem cut_s3 (tv : FVec Ideal S64x256 .f32) (xs : FVec Ideal S1x256 .f32) (x : S192x256.Idx) (W : Fin 64 → EReal)
    (hW : ∀ r, tv (ix2 r (x 1)) * xs (ix2 0 (x 1)) * two = W r) (hf : ∀ r, W r - W r = 0) :
    k0_pay62 (F := Ideal) tv xs x = if h : (x 0 : ℕ) < 64 then W ⟨x 0, h⟩ else 0 := by
  have b0 : (x 0 : ℕ) < 192 := (x 0).isLt
  have hW' := funext hW
  subst hW'
  refine Eq.trans ?_ (parts _ hf (x 0) (by omega))
  pointwise [k0_pay62]
  rfl

/-- A stacked piece for the correction of `dx`, over the value it is cut from. -/
theorem cut_t3 (tv : FVec Ideal S64x256 .f32) (x : S256x256.Idx) (W : Fin 64 → EReal)
    (hW : ∀ r, tv (ix2 r (x 0)) * two = W r) (hf : ∀ r, W r - W r = 0) :
    k0_pay61 (F := Ideal) tv x = if h : (x 1 : ℕ) < 64 then W ⟨x 1, h⟩ else 0 := by
  have hW' := funext hW
  subst hW'
  refine Eq.trans ?_ (parts' _ hf (x 1))
  pointwise [k0_pay61]
  rfl

/-- A piece for `dA` over the loaded arrays. -/
theorem piece_s3 (dy : FVec Ideal S256x1024 .fp8e5m2) (b : FVec Ideal S64x1024 .bf16) (ds xs : FVec Ideal S1x256 .f32)
    (x : S192x256.Idx) (W : Fin 64 → EReal)
    (hW : ∀ r, (∑ o : Fin 1024, b (ix2 r o) * dy (ix2 (x 1) o)) * ds (ix2 0 (x 1)) * xs (ix2 0 (x 1)) * two = W r)
    (hf : ∀ r, W r - W r = 0) :
    k0_pay62 (F := Ideal) (k0_pay59 (F := Ideal) dy b ds) xs x = if h : (x 0 : ℕ) < 64 then W ⟨x 0, h⟩ else 0 := by
  refine cut_s3 _ _ x W (fun r => Eq.trans ?_ (hW r)) hf
  pointwise [k0_pay59, k0_pay58, k0_pay56]

/-- A piece for the correction of `dx` over the loaded arrays. -/
theorem piece_t3 (dy : FVec Ideal S256x1024 .fp8e5m2) (b : FVec Ideal S64x1024 .bf16)
    (x : S256x256.Idx) (W : Fin 64 → EReal)
    (hW : ∀ r, (∑ o : Fin 1024, b (ix2 r o) * dy (ix2 (x 0) o)) * two = W r)
    (hf : ∀ r, W r - W r = 0) :
    k0_pay61 (F := Ideal) (k0_pay58 (F := Ideal) dy b) x = if h : (x 1 : ℕ) < 64 then W ⟨x 1, h⟩ else 0 := by
  refine cut_t3 _ x W (fun r => Eq.trans ?_ (hW r)) hf
  pointwise [k0_pay58, k0_pay56]

/-- The first point writes the result `t`. -/
theorem t_first (t : Fin cfg0.N) (h0 : t.val % 8 = 0) (h1 : ¬t.val % 8 = 7) (y : S6x64x256.Idx) (p : Fin 1536)
    (hp : (p : ℕ) = 256 * (y 0 : ℕ) + (y 2 : ℕ)) :
    (outsAt0 m c t.val t.isLt).2.2.2.1 y = traw m c (y 1) p * DS m c p := by
  rw [outsAt0_A m c t h0 h1]; frame_out
  canon_tiles x h
  all_goals
    open_payloads
    pointwise [traw, DY, DS, B]
    blk_point [iblk, idx t]

/-- The first point keeps the gradient. -/
theorem dyb_first (t : Fin cfg0.N) (h0 : t.val % 8 = 0) (h1 : ¬t.val % 8 = 7) (y : S1536x1024.Idx) :
    (outsAt0 m c t.val t.isLt).2.2.2.2.2.1 y = DY m c (y 0) (y 1) := by
  rw [outsAt0_A m c t h0 h1]; frame_out
  canon_tiles x h
  all_goals
    open_payloads
    pointwise [DY]
    blk_point [iblk, idx t]

/-- The first point keeps the scales of the gradient's rows, one row of 128 equal lanes each. -/
theorem dcol_first (t : Fin cfg0.N) (h0 : t.val % 8 = 0) (h1 : ¬t.val % 8 = 7) (y : S1536x128.Idx) :
    (outsAt0 m c t.val t.isLt).2.2.2.2.2.2.2.2.1 y = DS m c (y 0) := by
  rw [outsAt0_A m c t h0 h1]; frame_out
  canon_tiles x h
  all_goals
    open_payloads
    pointwise [DS]
    blk_point [iblk, idx t]

/-- The first point keeps, for the correction of `dx`, twice the unscaled product in 64 columns and zero in the others:
    where a value is finite, the parts left of it after the first are zero. -/
theorem t3_first (hfin : ∀ r p, traw m c r p * two - traw m c r p * two = 0)
    (t : Fin cfg0.N) (h0 : t.val % 8 = 0) (h1 : ¬t.val % 8 = 7) (y : S1536x256.Idx) :
    (outsAt0 m c t.val t.isLt).2.2.2.2.2.2.1 y
      = if h : (y 1 : ℕ) < 64 then traw m c ⟨y 1, h⟩ (y 0) * two else 0 := by
  rw [outsAt0_A m c t h0 h1]; frame_out
  canon_tiles x h
  all_goals
    refine (piece_t3 _ _ x (fun r => traw m c r (y 0) * two) (fun r => ?_) (fun r => hfin r _)).trans ?_
    · pointwise [traw, DY, B, two]
      blk_point [iblk, idx t]
    · simp only [h1]

/-- The first point keeps, for `dA`, twice the scaled product in 64 rows and zero in the others. -/
theorem s3_first (hfin : ∀ r p, traw m c r p * DS m c p * XS m c p * two - traw m c r p * DS m c p * XS m c p * two = 0)
    (t : Fin cfg0.N) (h0 : t.val % 8 = 0) (h1 : ¬t.val % 8 = 7) (y : S192x1536.Idx) :
    (outsAt0 m c t.val t.isLt).2.2.2.2.2.2.2.1 y
      = if h : (y 0 : ℕ) < 64 then traw m c ⟨y 0, h⟩ (y 1) * DS m c (y 1) * XS m c (y 1) * two else 0 := by
  rw [outsAt0_A m c t h0 h1]; frame_out
  canon_tiles x h
  all_goals
    refine (piece_s3 _ _ _ _ x (fun r => traw m c r (y 1) * DS m c (y 1) * XS m c (y 1) * two) (fun r => ?_)
      (fun r => hfin r _)).trans ?_
    · pointwise [traw, DY, B, DS, XS, two]
      blk_point [iblk, idx t]
    · simp only [h0]

end Cert.KernelIdeal.Val

end
-- ==== Proof.Value.Carry.lean ====
/- What the scratch arrays hold at every grid point: those filled at the first point keep their contents, and the
   accumulator's last contents are the whole sum over the 4096 columns. -/
module

public import proofs.«01_k».proof.Proof.Value.Scratch
public import Idealize.ShloMosaic.Lib.Pipeline.ValueKit.Held
public import Idealize.ShloMosaic.Lib.Pipeline.ReadBack

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)

/-- The result `t` stays what the first point wrote. -/
theorem t_at (t : Fin cfg0.N) (y : S6x64x256.Idx) :
    (outsAt0 m c t.val t.isLt).2.2.2.1 y
      = traw m c (y 1) ⟨256 * (y 0 : ℕ) + (y 2 : ℕ), by idx_bounds y; omega⟩
        * DS m c ⟨256 * (y 0 : ℕ) + (y 2 : ℕ), by idx_bounds y; omega⟩ :=
  Pipeline.eq_of_write_hold_apply (fun n h => (outsAt0 m c n h).2.2.2.1) 8
    (fun _ y => traw m c (y 1) ⟨256 * (y 0 : ℕ) + (y 2 : ℕ), by idx_bounds y; omega⟩
        * DS m c ⟨256 * (y 0 : ℕ) + (y 2 : ℕ), by idx_bounds y; omega⟩)
    (fun t h y => t_first m c t h (by omega) y _ rfl)
    (fun t h y => by
      by_cases h1 : t.val % 8 = 7
      · rw [outsAt0_C m c t h h1]; rfl
      · rw [outsAt0_B m c t h h1]; rfl) t y

/-- The kept gradient at every point. -/
theorem dyb_at (t : Fin cfg0.N) (y : S1536x1024.Idx) :
    (outsAt0 m c t.val t.isLt).2.2.2.2.2.1 y = DY m c (y 0) (y 1) :=
  Pipeline.eq_of_write_hold_apply (fun n h => (outsAt0 m c n h).2.2.2.2.2.1) 8 (fun _ y => DY m c (y 0) (y 1))
    (fun t h y => dyb_first m c t h (by omega) y)
    (fun t h y => by
      by_cases h1 : t.val % 8 = 7
      · rw [outsAt0_C m c t h h1]; rfl
      · rw [outsAt0_B m c t h h1]; rfl) t y

/-- The kept scales at every point. -/
theorem dcol_at (t : Fin cfg0.N) (y : S1536x128.Idx) :
    (outsAt0 m c t.val t.isLt).2.2.2.2.2.2.2.2.1 y = DS m c (y 0) :=
  Pipeline.eq_of_write_hold_apply (fun n h => (outsAt0 m c n h).2.2.2.2.2.2.2.2.1) 8 (fun _ y => DS m c (y 0))
    (fun t h y => dcol_first m c t h (by omega) y)
    (fun t h y => by
      by_cases h1 : t.val % 8 = 7
      · rw [outsAt0_C m c t h h1]; rfl
      · rw [outsAt0_B m c t h h1]; rfl) t y

/-- The kept columns for the correction of `dx` at every point. -/
theorem t3_at (hfin : ∀ r p, traw m c r p * two - traw m c r p * two = 0) (t : Fin cfg0.N) (y : S1536x256.Idx) :
    (outsAt0 m c t.val t.isLt).2.2.2.2.2.2.1 y
      = if h : (y 1 : ℕ) < 64 then traw m c ⟨y 1, h⟩ (y 0) * two else 0 :=
  Pipeline.eq_of_write_hold_apply (fun n h => (outsAt0 m c n h).2.2.2.2.2.2.1) 8
    (fun _ y => if h : (y 1 : ℕ) < 64 then traw m c ⟨y 1, h⟩ (y 0) * two else (0 : EReal))
    (fun t h y => t3_first m c hfin t h (by omega) y)
    (fun t h y => by
      by_cases h1 : t.val % 8 = 7
      · rw [outsAt0_C m c t h h1]; rfl
      · rw [outsAt0_B m c t h h1]; rfl) t y

/-- The kept rows for `dA` at every point. -/
theorem s3_at (hfin : ∀ r p, traw m c r p * DS m c p * XS m c p * two - traw m c r p * DS m c p * XS m c p * two = 0)
    (t : Fin cfg0.N) (y : S192x1536.Idx) :
    (outsAt0 m c t.val t.isLt).2.2.2.2.2.2.2.1 y
      = if h : (y 0 : ℕ) < 64 then traw m c ⟨y 0, h⟩ (y 1) * DS m c (y 1) * XS m c (y 1) * two else 0 :=
  Pipeline.eq_of_write_hold_apply (fun n h => (outsAt0 m c n h).2.2.2.2.2.2.2.1) 8
    (fun _ y => if h : (y 0 : ℕ) < 64 then traw m c ⟨y 0, h⟩ (y 1) * DS m c (y 1) * XS m c (y 1) * two else (0 : EReal))
    (fun t h y => s3_first m c hfin t h (by omega) y)
    (fun t h y => by
      by_cases h1 : t.val % 8 = 7
      · rw [outsAt0_C m c t h h1]; rfl
      · rw [outsAt0_B m c t h h1]; rfl) t y

/-- One point adds to the accumulator its 512 columns' part of the sum. -/
theorem acc_step (acc : FVec Ideal S64x1536 .f32) (a : FVec Ideal S64x512 .bf16) (x : FVec Ideal S1536x512 .fp8e4m3)
    (j : S64x1536.Idx) :
    k0_pay1 (F := Ideal) (k0_pay158 (F := Ideal) (k0_pay147 (F := Ideal) a) x acc) j
      = acc j + ∑ l : Fin 512, a (ix2 (j 0) l) * x (ix2 (j 1) l) := by
  pointwise [k0_pay1, k0_pay158, k0_pay147, k0_pay156]

/-- The accumulator starts at zero. -/
theorem acc_zero (j : S64x1536.Idx) : k0_pay85 (F := Ideal) (k0_pay64 (F := Ideal)) j = 0 := by
  pointwise [k0_pay85, k0_pay64]

/-- The accumulator after the last point. -/
theorem acc_last (j : S64x1536.Idx) :
    (outsAt0 m c t0_7.val t0_7.isLt).2.2.2.2.2.2.2.2.2 j = xaraw m c (j 0) (j 1) := by
  rw [Pipeline.eq_sum_fin_of_reset_step_apply_last (fun n h => (outsAt0 m c n h).2.2.2.2.2.2.2.2.2) 8 (fun _ => (0 : EReal)) _
    (fun t h j => by rw [outsAt0_A m c t h (by omega)]; frame_out; rw [acc_step, acc_zero])
    (fun t h j => by
      by_cases h1 : t.val % 8 = 7
      · rw [outsAt0_C m c t h h1]; frame_out; rw [acc_step, read_unread_whole]
      · rw [outsAt0_B m c t h h1]; frame_out; rw [acc_step, read_unread_whole])
    (le_of_eq N_0) t0_7 rfl j, zero_add]
  unfold xaraw
  refine Fin.sum_mul_add_congr fun t k hl => ?_
  exact congrArg₂ (· * ·) (blk_a m c t (j 0) k _ rfl) (blk_x m c t (j 1) k _ rfl)

/-- At the last point, the accumulator's new contents over what the point before left. -/
theorem acc_C (t : Fin cfg0.N) (h0 : ¬t.val % 8 = 0) (h1 : t.val % 8 = 7) :
    k0_pay1 (F := Ideal) (k0_pay158 (F := Ideal) (k0_pay147 (F := Ideal) (iblk m c 6 t)) (iblk m c 0 t)
      (outsAt0 m c (t.val - 1) (Nat.lt_of_le_of_lt (Nat.sub_le _ _) t.isLt)).2.2.2.2.2.2.2.2.2)
      = fun j => xaraw m c (j 0) (j 1) := by
  funext j
  have ht : t = t0_7 := by
    have := lt_of_lt_of_eq t.isLt N_0
    exact Fin.ext (show t.val = 7 by omega)
  rw [← acc_last m c j, ← ht, outsAt0_C m c t h0 h1]; frame_out
  rw [read_unread_whole]

/-- The last point writes the result `xa`. -/
theorem xa_last (t : Fin cfg0.N) (h0 : ¬t.val % 8 = 0) (h1 : t.val % 8 = 7) (y : S6x64x256.Idx) (p : Fin 1536)
    (hp : (p : ℕ) = 256 * (y 0 : ℕ) + (y 2 : ℕ)) :
    (outsAt0 m c t.val t.isLt).2.2.2.2.1 y = xaraw m c (y 1) p * XS m c p := by
  rw [outsAt0_C m c t h0 h1]; frame_out
  simp only [read_unread_whole]
  rw [acc_C m c t h0 h1]
  simp (disch := decide) only [View.readCov_fill]
  canon_tiles x h
  all_goals
    open_payloads
    pointwise
    refine congrArg₂ (· * ·) (congrArg₂ (xaraw m c) (Fin.ext h1.symm) (Fin.ext ?_)) (blk_xs m c t _ _ p ?_)
    · dsimp only
      omega
    · simp only [Fin.isValue, Fin.coe_ofNat_eq_mod, Nat.reduceMod]
      omega

end Cert.KernelIdeal.Val

end
-- ==== Proof.Value.Da.lean ====
/- What the grid points leave in the result `dA`. -/
module

public import proofs.«01_k».proof.Proof.Value.Carry

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)

/-- One point's `dA` over any rows that are zero past the first 64. -/
theorem da_payload (x : FVec Ideal S1536x512 .fp8e4m3) (s3 : FVec Ideal S192x1536 .bf16) (y : S64x512.Idx)
    (W : Fin 64 → Fin 1536 → EReal)
    (hs : ∀ j : S192x1536.Idx, s3 j = if h : (j 0 : ℕ) < 64 then W ⟨j 0, h⟩ (j 1) else 0) :
    k0_pay157 (F := Ideal) x s3 y = ∑ p : Fin 1536, W (y 0) p * x (ix2 p (y 1)) := by
  have b0 : (y 0 : ℕ) < 64 := (y 0).isLt
  pointwise [k0_pay157, k0_pay156]
  have z : ∀ k : Fin 192, ¬(k : ℕ) < 64 → ∀ p, s3 (ix2 k p) = 0 := fun k h p => (hs _).trans (dif_neg h)
  refine (congrArg₂ (· + ·) (congrArg₂ (· + ·) (Finset.sum_eq_zero fun p _ => ?_) (Finset.sum_eq_zero fun p _ => ?_))
    (Finset.sum_congr rfl fun p _ => ?_)).trans ((congrArg (· + _) (add_zero (0 : EReal))).trans (zero_add _))
  · exact (congrArg (· * _) (z _ (by dsimp only; omega) p)).trans (zero_mul _)
  · exact (congrArg (· * _) (z _ (by dsimp only; omega) p)).trans (zero_mul _)
  · exact congrArg (· * _) ((hs _).trans (dif_pos b0))

/-- What a point leaves in `dA`. -/
theorem da_at (hfin : ∀ r p, traw m c r p * DS m c p * XS m c p * two - traw m c r p * DS m c p * XS m c p * two = 0)
    (t : Fin cfg0.N) (y : S64x512.Idx) (n : Fin 4096) (hn : (n : ℕ) = t * 512 + (y 1 : ℕ)) :
    (outsAt0 m c t.val t.isLt).2.1 y
      = ∑ p : Fin 1536, traw m c (y 0) p * DS m c p * XS m c p * two * X m c p n := by
  by_cases h0 : t.val % 8 = 0
  · have h1 : ¬t.val % 8 = 7 := by omega
    rw [outsAt0_A m c t h0 h1]; frame_out
    refine (da_payload _ _ y (fun r p => traw m c r p * DS m c p * XS m c p * two) fun j => ?_).trans ?_
    · rw [View.readCov_eq_canon']
      refine Eq.trans ?_ (s3_first m c hfin t h0 h1 j)
      rw [outsAt0_A m c t h0 h1]; frame_out
      refine congrArg _ ?_
      funext a
      refine Fin.ext ((Rect.idx_unit_val _ _ _ j a).trans ?_)
      match a with
      | 0 => exact Nat.zero_add _
      | 1 => exact Nat.zero_add _
    · exact Finset.sum_congr rfl fun p _ => congrArg _ (blk_x m c t p (y 1) n hn)
  · refine Eq.trans (b := k0_pay157 (F := Ideal) (iblk m c 0 t)
      (outsAt0 m c (t.val - 1) (Nat.lt_of_le_of_lt (Nat.sub_le _ _) t.isLt)).2.2.2.2.2.2.2.1 y) ?_ ?_
    · by_cases h1 : t.val % 8 = 7
      · rw [outsAt0_C m c t h0 h1]; frame_out; rw [read_unread_whole]
      · rw [outsAt0_B m c t h0 h1]; frame_out; rw [read_unread_whole]
    · refine (da_payload _ _ y (fun r p => traw m c r p * DS m c p * XS m c p * two) fun j =>
        s3_at m c hfin ⟨t.val - 1, Nat.lt_of_le_of_lt (Nat.sub_le _ _) t.isLt⟩ j).trans ?_
      exact Finset.sum_congr rfl fun p _ => congrArg _ (blk_x m c t p (y 1) n hn)

end Cert.KernelIdeal.Val

end
-- ==== Proof.Value.Decode.lean ====
/- The kernel's decoding of the packed 4-bit weights: each byte's two codes, looked up in the table and scaled. -/
module

public import proofs.«01_k».proof.Proof.Value.Spec
public import Idealize.ShloMosaic.Lib.BitcastPair

/-! # The sixteen-level code as the kernel unpacks it -/

@[expose] public section

set_option maxRecDepth 16384

noncomputable section

namespace Cert.KernelIdeal.Val

open Idealize.ShloMosaic Idealize.ShloMosaic.TcCoe Idealize.ShloMosaic.Tactic Cert.KernelIdeal.Gen

/-- The level a four-bit code names, by its bits from the highest down. -/
def nf4 (b3 b2 b1 b0 : BitVec 1) : EReal :=
  Scalar.select b3
    (Scalar.select b2
      (Scalar.select b1 (Scalar.select b0 1 (Ideal.ofBits .bf16 16185#16))
        (Scalar.select b0 (Ideal.ofBits .bf16 16144#16) (Ideal.ofBits .bf16 16098#16)))
      (Scalar.select b1 (Scalar.select b0 (Ideal.ofBits .bf16 16045#16) (Ideal.ofBits .bf16 15996#16))
        (Scalar.select b0 (Ideal.ofBits .bf16 15909#16) (Ideal.ofBits .bf16 15779#16))))
    (Scalar.select b2
      (Scalar.select b1 (Scalar.select b0 0 (Ideal.ofBits .bf16 48570#16))
        (Scalar.select b0 (Ideal.ofBits .bf16 48701#16) (Ideal.ofBits .bf16 48786#16)))
      (Scalar.select b1 (Scalar.select b0 (Ideal.ofBits .bf16 48842#16) (Ideal.ofBits .bf16 48902#16))
        (Scalar.select b0 (Ideal.ofBits .bf16 48946#16) (Ideal.ofBits .bf16 49024#16))))

/-- The level named by the low (`h = 0`) or high (`h = 1`) half of a byte. -/
def nib (v : BitVec 8) (h : ℕ) : EReal :=
  nf4 (BitVec.ofBool (v.getLsbD (4 * h + 3))) (BitVec.ofBool (v.getLsbD (4 * h + 2)))
    (BitVec.ofBool (v.getLsbD (4 * h + 1))) (BitVec.ofBool (v.getLsbD (4 * h)))

/-- A byte spread over one 32-bit word: its low half at bit 0, its high half at bit 16. -/
def spread (v : BitVec 8) : BitVec 32 := (v.setWidth 32 ||| v.setWidth 32 <<< 12) &&& 983055#32

/-- A bit of half `h` of the spread word, as the kernel tests it. -/
theorem spread_bit : ∀ v : BitVec 8, ∀ h : Fin 2,
    (IntOp.cmpi .ne (IntOp.andi ((spread v).extractLsb' (16 * (h : ℕ)) 16) 8#16) 0#16
        = BitVec.ofBool (v.getLsbD (4 * (h : ℕ) + 3)))
      ∧ (IntOp.cmpi .ne (IntOp.andi ((spread v).extractLsb' (16 * (h : ℕ)) 16) 4#16) 0#16
        = BitVec.ofBool (v.getLsbD (4 * (h : ℕ) + 2)))
      ∧ (IntOp.cmpi .ne (IntOp.andi ((spread v).extractLsb' (16 * (h : ℕ)) 16) 2#16) 0#16
        = BitVec.ofBool (v.getLsbD (4 * (h : ℕ) + 1)))
      ∧ (IntOp.cmpi .ne (IntOp.andi ((spread v).extractLsb' (16 * (h : ℕ)) 16) 1#16) 0#16
        = BitVec.ofBool (v.getLsbD (4 * (h : ℕ)))) := by
  decide +kernel

/-- The unpacked codes: row `r` of 64 holds the half `r % 2` of row `r / 2`. -/
theorem code_at (w : Vec Ideal S32x1024 .i8) (x : S64x1024.Idx) (i : Fin 32) (hi : (i : ℕ) = (x 0 : ℕ) / 2) :
    k0_pay86 (F := Ideal) w x = (spread (w (ix2 i (x 1)))).extractLsb' (16 * ((x 0 : ℕ) % 2)) 16 := by
  unfold k0_pay86
  dsimp only
  rw [bitcast_32_16]
  have e : S64x1024.row x = (x 0 : ℕ) := rfl
  rw [Shape.Bitcasts.srcIdx_congr _ _ (congrArg (· / 2) e) _ (fun a ha => by
    match a, ha with
    | 0, _ => exact hi ▸ i.isLt), e]
  refine congrArg (fun v => BitVec.extractLsb' _ 16 (spread (w v))) ?_
  funext a
  match a with
  | 0 => exact Fin.ext ((Shape.Bitcasts.srcIdx_row _ _ _ _ 0 rfl).trans hi.symm)
  | 1 => exact Fin.ext (Shape.Bitcasts.srcIdx_other _ _ _ _ 1 (by decide))

/-- One tile of unpacked weights. -/
theorem decode_tile (w : Vec Ideal S32x1024 .i8) (am : Vec Ideal S1x1x1024 .bf16) (x : S64x1024.Idx)
    (i : Fin 32) (hi : (i : ℕ) = (x 0 : ℕ) / 2) :
    k0_pay93 (F := Ideal) (k0_pay87 w) (k0_pay88 w) (k0_pay89 w) (k0_pay90 w) (k0_pay91 (F := Ideal) w)
        (k0_pay92 (F := Ideal) w) (FloatOps.ofBits FTy.bf16 15909#16) am x
      = nib (w (ix2 i (x 1))) ((x 0 : ℕ) % 2) * am (ix3 0 0 (x 1)) := by
  pointwise [k0_pay93, k0_pay87, k0_pay88, k0_pay89, k0_pay90, k0_pay91, k0_pay92]
  rw [code_at w x i hi]
  obtain ⟨e3, e2, e1, e0⟩ := spread_bit (w (ix2 i (x 1))) ⟨(x 0 : ℕ) % 2, Nat.mod_lt _ (by decide)⟩
  dsimp only at e3 e2 e1 e0
  rw [e3, e2, e1, e0]
  rfl

/-- The eight tiles the kernel stores over the unpacked weights. -/
def wbPieces (w : Vec Ideal S256x1024 .i8) (am : Vec Ideal S1x8x1024 .bf16) :
    List (View.Piece (Elt Ideal) S512x1024 .bf16) :=
  [⟨Rect.unit ![448, 0] ![64, 1024] inb_S512x1024_S64x1024_448_0,
      k0_pay146
        (k0_pay145
          (k0_pay141
            (View.ld (Val := Elt Ideal) w (Rect.unit ![224, 0] ![32, 1024] inb_S256x1024_S32x1024_224_0)))
          (k0_pay142
            (View.ld (Val := Elt Ideal) w (Rect.unit ![224, 0] ![32, 1024] inb_S256x1024_S32x1024_224_0)))
          (k0_pay143
            (View.ld (Val := Elt Ideal) w (Rect.unit ![224, 0] ![32, 1024] inb_S256x1024_S32x1024_224_0)))
          (k0_pay144
            (View.ld (Val := Elt Ideal) w (Rect.unit ![224, 0] ![32, 1024] inb_S256x1024_S32x1024_224_0)))
          (0#16)
          (View.ld (Val := Elt Ideal) am (Rect.unit ![0, 7, 0] ![1, 1, 1024] inb_S1x8x1024_S1x1x1024_0_7_0)))⟩,
    ⟨Rect.unit ![384, 0] ![64, 1024] inb_S512x1024_S64x1024_384_0,
      k0_pay139
        (k0_pay133
          (k0_pay131
            (View.ld (Val := Elt Ideal) w (Rect.unit ![192, 0] ![32, 1024] inb_S256x1024_S32x1024_192_0))))
        (k0_pay134
          (k0_pay131
            (View.ld (Val := Elt Ideal) w (Rect.unit ![192, 0] ![32, 1024] inb_S256x1024_S32x1024_192_0))))
        (k0_pay135
          (k0_pay131
            (View.ld (Val := Elt Ideal) w (Rect.unit ![192, 0] ![32, 1024] inb_S256x1024_S32x1024_192_0))))
        (k0_pay136
          (k0_pay131
            (View.ld (Val := Elt Ideal) w (Rect.unit ![192, 0] ![32, 1024] inb_S256x1024_S32x1024_192_0))))
        (k0_pay137
          (k0_pay131
            (View.ld (Val := Elt Ideal) w (Rect.unit ![192, 0] ![32, 1024] inb_S256x1024_S32x1024_192_0))))
        (k0_pay138
          (k0_pay131
            (View.ld (Val := Elt Ideal) w (Rect.unit ![192, 0] ![32, 1024] inb_S256x1024_S32x1024_192_0))))
        (FloatOps.ofBits FTy.bf16 48842#16)
        (View.ld (Val := Elt Ideal) am (Rect.unit ![0, 6, 0] ![1, 1, 1024] inb_S1x8x1024_S1x1x1024_0_6_0))⟩,
    ⟨Rect.unit ![320, 0] ![64, 1024] inb_S512x1024_S64x1024_320_0,
      k0_pay130
        (k0_pay125 (View.ld (Val := Elt Ideal) w (Rect.unit ![160, 0] ![32, 1024] inb_S256x1024_S32x1024_160_0)))
        (k0_pay126 (View.ld (Val := Elt Ideal) w (Rect.unit ![160, 0] ![32, 1024] inb_S256x1024_S32x1024_160_0)))
        (k0_pay127 (View.ld (Val := Elt Ideal) w (Rect.unit ![160, 0] ![32, 1024] inb_S256x1024_S32x1024_160_0)))
        (k0_pay128 (View.ld (Val := Elt Ideal) w (Rect.unit ![160, 0] ![32, 1024] inb_S256x1024_S32x1024_160_0)))
        (k0_pay129 (View.ld (Val := Elt Ideal) w (Rect.unit ![160, 0] ![32, 1024] inb_S256x1024_S32x1024_160_0)))
        (FloatOps.ofBits FTy.bf16 16045#16)
        (View.ld (Val := Elt Ideal) am (Rect.unit ![0, 5, 0] ![1, 1, 1024] inb_S1x8x1024_S1x1x1024_0_5_0))⟩,
    ⟨Rect.unit ![256, 0] ![64, 1024] inb_S512x1024_S64x1024_256_0,
      k0_pay123
        (k0_pay122
          (k0_pay119
            (View.ld (Val := Elt Ideal) w (Rect.unit ![128, 0] ![32, 1024] inb_S256x1024_S32x1024_128_0)))
          (k0_pay120
            (View.ld (Val := Elt Ideal) w (Rect.unit ![128, 0] ![32, 1024] inb_S256x1024_S32x1024_128_0)))
          (k0_pay121
            (View.ld (Val := Elt Ideal) w (Rect.unit ![128, 0] ![32, 1024] inb_S256x1024_S32x1024_128_0)))
          4#16)
        (View.ld (Val := Elt Ideal) am (Rect.unit ![0, 4, 0] ![1, 1, 1024] inb_S1x8x1024_S1x1x1024_0_4_0))⟩,
    ⟨Rect.unit ![192, 0] ![64, 1024] inb_S512x1024_S64x1024_192_0,
      k0_pay118
        (k0_pay112 (View.ld (Val := Elt Ideal) w (Rect.unit ![96, 0] ![32, 1024] inb_S256x1024_S32x1024_96_0)))
        (k0_pay113 (View.ld (Val := Elt Ideal) w (Rect.unit ![96, 0] ![32, 1024] inb_S256x1024_S32x1024_96_0)))
        (k0_pay114 (View.ld (Val := Elt Ideal) w (Rect.unit ![96, 0] ![32, 1024] inb_S256x1024_S32x1024_96_0)))
        (k0_pay115 (View.ld (Val := Elt Ideal) w (Rect.unit ![96, 0] ![32, 1024] inb_S256x1024_S32x1024_96_0)))
        (k0_pay116 (View.ld (Val := Elt Ideal) w (Rect.unit ![96, 0] ![32, 1024] inb_S256x1024_S32x1024_96_0)))
        k0_pay117 (FloatOps.ofBits FTy.bf16 48570#16)
        (View.ld (Val := Elt Ideal) am (Rect.unit ![0, 3, 0] ![1, 1, 1024] inb_S1x8x1024_S1x1x1024_0_3_0))⟩,
    ⟨Rect.unit ![128, 0] ![64, 1024] inb_S512x1024_S64x1024_128_0,
      k0_pay110
        (k0_pay105 (View.ld (Val := Elt Ideal) w (Rect.unit ![64, 0] ![32, 1024] inb_S256x1024_S32x1024_64_0)))
        (k0_pay106 (View.ld (Val := Elt Ideal) w (Rect.unit ![64, 0] ![32, 1024] inb_S256x1024_S32x1024_64_0)))
        (k0_pay107 (View.ld (Val := Elt Ideal) w (Rect.unit ![64, 0] ![32, 1024] inb_S256x1024_S32x1024_64_0)))
        (k0_pay108 (View.ld (Val := Elt Ideal) w (Rect.unit ![64, 0] ![32, 1024] inb_S256x1024_S32x1024_64_0)))
        k0_pay109 (FloatOps.ofBits FTy.bf16 16185#16)
        (View.ld (Val := Elt Ideal) am (Rect.unit ![0, 2, 0] ![1, 1, 1024] inb_S1x8x1024_S1x1x1024_0_2_0))⟩,
    ⟨Rect.unit ![64, 0] ![64, 1024] inb_S512x1024_S64x1024_64_0,
      k0_pay103
        (k0_pay96
          (k0_pay95 (View.ld (Val := Elt Ideal) w (Rect.unit ![32, 0] ![32, 1024] inb_S256x1024_S32x1024_32_0)))
          0#16)
        (k0_pay97
          (k0_pay94 (View.ld (Val := Elt Ideal) w (Rect.unit ![32, 0] ![32, 1024] inb_S256x1024_S32x1024_32_0))))
        (k0_pay98
          (k0_pay94 (View.ld (Val := Elt Ideal) w (Rect.unit ![32, 0] ![32, 1024] inb_S256x1024_S32x1024_32_0))))
        (k0_pay99
          (k0_pay94 (View.ld (Val := Elt Ideal) w (Rect.unit ![32, 0] ![32, 1024] inb_S256x1024_S32x1024_32_0))))
        (k0_pay100
          (k0_pay94 (View.ld (Val := Elt Ideal) w (Rect.unit ![32, 0] ![32, 1024] inb_S256x1024_S32x1024_32_0)))
          (k0_pay95 (View.ld (Val := Elt Ideal) w (Rect.unit ![32, 0] ![32, 1024] inb_S256x1024_S32x1024_32_0)))
          0#16)
        (k0_pay101
          (k0_pay94 (View.ld (Val := Elt Ideal) w (Rect.unit ![32, 0] ![32, 1024] inb_S256x1024_S32x1024_32_0)))
          (k0_pay95 (View.ld (Val := Elt Ideal) w (Rect.unit ![32, 0] ![32, 1024] inb_S256x1024_S32x1024_32_0)))
          0#16)
        (k0_pay102
          (k0_pay95 (View.ld (Val := Elt Ideal) w (Rect.unit ![32, 0] ![32, 1024] inb_S256x1024_S32x1024_32_0)))
          0#16)
        (FloatOps.ofBits FTy.bf16 48946#16)
        (View.ld (Val := Elt Ideal) am (Rect.unit ![0, 1, 0] ![1, 1, 1024] inb_S1x8x1024_S1x1x1024_0_1_0))⟩,
    ⟨Rect.unit ![0, 0] ![64, 1024] inb_S512x1024_S64x1024_0_0,
      k0_pay93
        (k0_pay87 (View.ld (Val := Elt Ideal) w (Rect.unit ![0, 0] ![32, 1024] inb_S256x1024_S32x1024_0_0)))
        (k0_pay88 (View.ld (Val := Elt Ideal) w (Rect.unit ![0, 0] ![32, 1024] inb_S256x1024_S32x1024_0_0)))
        (k0_pay89 (View.ld (Val := Elt Ideal) w (Rect.unit ![0, 0] ![32, 1024] inb_S256x1024_S32x1024_0_0)))
        (k0_pay90 (View.ld (Val := Elt Ideal) w (Rect.unit ![0, 0] ![32, 1024] inb_S256x1024_S32x1024_0_0)))
        (k0_pay91 (View.ld (Val := Elt Ideal) w (Rect.unit ![0, 0] ![32, 1024] inb_S256x1024_S32x1024_0_0)))
        (k0_pay92 (View.ld (Val := Elt Ideal) w (Rect.unit ![0, 0] ![32, 1024] inb_S256x1024_S32x1024_0_0)))
        (FloatOps.ofBits FTy.bf16 15909#16)
        (View.ld (Val := Elt Ideal) am (Rect.unit ![0, 0, 0] ![1, 1, 1024] inb_S1x8x1024_S1x1x1024_0_0_0))⟩]

/-- The unpacked weights of a point: row `r` is a half of row `r / 2` of the codes, times the scale of its
group of 64 rows. -/
theorem wb_at (w : Vec Ideal S256x1024 .i8) (am : Vec Ideal S1x8x1024 .bf16) (y : S512x1024.Idx)
    (i : Fin 256) (hi : (i : ℕ) = (y 0 : ℕ) / 2) (g : Fin 8) (hg : (g : ℕ) = (y 0 : ℕ) / 64) :
    View.canon (wbPieces w am) y = nib (w (ix2 i (y 1))) ((y 0 : ℕ) % 2) * am (ix3 0 g (y 1)) := by
  unfold wbPieces
  canon_tiles x h
  all_goals
    (refine (decode_tile _ _ x ⟨(x 0 : ℕ) / 2, by have := (x 0).isLt; omega⟩ rfl).trans ?_
     refine congrArg₂ (· * ·) (congrArg₂ nib (congrArg w ?_) (by omega)) (congrArg am ?_)
     · funext a
       refine Fin.ext ((Rect.idx_unit_val _ _ _ _ a).trans ?_)
       match a with
       | 0 => dsimp [ix2]; omega
       | 1 => dsimp [ix2]; omega
     · funext a
       refine Fin.ext ((Rect.idx_unit_val _ _ _ _ a).trans ?_)
       match a with
       | 0 => dsimp [ix3]
       | 1 => dsimp [ix3]; omega
       | 2 => dsimp [ix3]; omega)

end Cert.KernelIdeal.Val

end
-- ==== Proof.Value.Dx.lean ====
/- What the grid points leave in the result `dx`. -/
module

public import proofs.«01_k».proof.Proof.Value.Carry
public import proofs.«01_k».proof.Proof.Value.Decode

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)

/-- One batch's tile of `dx`: the kept gradient against the unpacked weights, the correction against the adapter's rows,
    and the row's scale over the sum. -/
theorem dx_payload (a : FVec Ideal S64x512 .bf16) (d : FVec Ideal S256x1024 .bf16) (w : FVec Ideal S512x1024 .bf16)
    (t3 : FVec Ideal S256x256 .bf16) (dc : FVec Ideal S256x128 .f32) (x : S256x512.Idx)
    (Dy Wv : Fin 1024 → EReal) (T : Fin 64 → EReal) (D : EReal)
    (hd : ∀ o, d (ix2 (x 0) o) = Dy o) (hw : ∀ o, w (ix2 (x 1) o) = Wv o)
    (ht : ∀ k : Fin 256, t3 (ix2 (x 0) k) = if h : (k : ℕ) < 64 then T ⟨k, h⟩ else 0)
    (hc : ∀ l, dc (ix2 (x 0) l) = D) :
    k0_pay155 (F := Ideal) (k0_pay148 (F := Ideal) a) d w t3 dc x
      = (∑ o : Fin 1024, Dy o * Wv o + ∑ r : Fin 64, T r * a (ix2 r (x 1))) * D := by
  pointwise [k0_pay155, k0_pay148, k0_pay147]
  refine congrArg₂ (· * ·) (congrArg₂ (· + ·) (Finset.sum_congr rfl fun o _ => congrArg₂ (· * ·) (hd o) (hw o)) ?_) ?_
  · refine (Fin.sum_univ_add (a := 64) (b := 192) _).trans ?_
    refine (congrArg₂ (· + ·) (Finset.sum_congr rfl fun r _ => ?_) (Finset.sum_eq_zero fun r _ => ?_)).trans (add_zero _)
    · exact congrArg₂ (· * ·) ((ht _).trans (dif_pos r.isLt)) (dif_pos r.isLt)
    · exact (congrArg (· * _) ((ht _).trans (dif_neg (by simp [Fin.natAdd])))).trans (zero_mul _)
  · split
    · exact hc _
    · split
      · exact hc _
      · split <;> exact hc _

/-- A weight as the kernel unpacks it: a half of a code byte names a level, and its group of 64 rows a scale. -/
def WB (n : Fin 4096) (o : Fin 1024) : EReal :=
  nib ((show Vec Ideal S2048x1024 .i8 from V m c main_arg4) (ix2 ⟨n / 2, by omega⟩ o)) (n % 2)
    * (show FVec Ideal S8x8x1024 .bf16 from V m c main_v2) (ix3 ⟨n / 512, by omega⟩ ⟨n / 64 % 8, by omega⟩ o)

/-- The codes' block at point `t`: 256 rows. -/
theorem blk_w (t : Fin cfg0.N) (i : Fin 256) (o : Fin 1024) (i' : Fin 2048) (h : (i' : ℕ) = t * 256 + i) :
    (show Vec Ideal S256x1024 .i8 from iblk m c 4 t) (ix2 i o)
      = (show Vec Ideal S2048x1024 .i8 from V m c main_arg4) (ix2 i' o) := by
  blk_ext [iblk, idx t]

/-- The groups' scales' block at point `t`: 8 rows. -/
theorem blk_am (t : Fin cfg0.N) (g : Fin 8) (o : Fin 1024) (t' : Fin 8) (h : (t' : ℕ) = t) :
    (show FVec Ideal S1x8x1024 .bf16 from iblk m c 5 t) (ix3 0 g o)
      = (show FVec Ideal S8x8x1024 .bf16 from V m c main_v2) (ix3 t' g o) := by
  blk_ext [iblk, idx t]

/-- The unpacked weights of point `t`. -/
theorem wb_point (t : Fin cfg0.N) (y : S512x1024.Idx) (n : Fin 4096) (h : (n : ℕ) = t * 512 + (y 0 : ℕ)) :
    View.canon (wbPieces (iblk m c 4 t) (iblk m c 5 t)) y = WB m c n (y 1) := by
  have b0 : (y 0 : ℕ) < 512 := (y 0).isLt
  have bt : t.val < 8 := lt_of_lt_of_eq t.isLt N_0
  refine (wb_at _ _ y ⟨(y 0 : ℕ) / 2, by omega⟩ rfl ⟨(y 0 : ℕ) / 64, by omega⟩ rfl).trans ?_
  unfold WB
  refine congrArg₂ (· * ·) (congrArg₂ nib (blk_w m c t _ _ _ (by dsimp only; omega)) (by omega)) ?_
  refine (blk_am m c t _ _ ⟨n / 512, by omega⟩ (by dsimp only; omega)).trans ?_
  refine congrArg _ (congrArg (fun g => ix3 _ g _) (Fin.ext ?_))
  dsimp only; omega

/-- What the first point leaves in `dx`. -/
theorem dx_first
    (hfin : ∀ r p, traw m c r p * two - traw m c r p * two = 0)
    (t : Fin cfg0.N) (c0 : t.val % 8 = 0) (c1 : ¬t.val % 8 = 7) (y : S1536x512.Idx) (n : Fin 4096)
    (hn : (n : ℕ) = t * 512 + (y 1 : ℕ)) :
    (outsAt0 m c t.val t.isLt).1 y
      = (∑ o : Fin 1024, DY m c (y 0) o * WB m c n o + ∑ r : Fin 64, traw m c r (y 0) * two * A m c r n) * DS m c (y 0) := by
  rw [outsAt0_A m c t c0 c1]; frame_out
  canon_tiles x h
  all_goals
    refine (dx_payload _ _ _ _ _ x (fun o => DY m c (y 0) o) (fun o => WB m c n o) (fun r => traw m c r (y 0) * two)
      (DS m c (y 0)) (fun o => ?_) (fun o => ?_) (fun k => ?_) (fun l => ?_)).trans ?_
    · rw [View.readCov_eq_canon']
      refine Eq.trans ?_ (dyb_first m c t c0 c1 (ix2 (y 0) o))
      rw [outsAt0_A m c t c0 c1]; frame_out
      exact congrArg _ (unit_idx _ _ _ _ (by dsimp only [ix2]; omega) (Nat.zero_add _).symm)
    · rw [View.readCov_eq_canon']
      refine Eq.trans ?_ (wb_point m c t (ix2 (x 1) o) n (by dsimp only [ix2]; omega))
      exact congrArg (View.canon (wbPieces _ _)) (unit_idx _ _ _ _ (Nat.zero_add _).symm (Nat.zero_add _).symm)
    · rw [View.readCov_eq_canon']
      refine Eq.trans ?_ (t3_first m c hfin t c0 c1 (ix2 (y 0) k))
      rw [outsAt0_A m c t c0 c1]; frame_out
      exact congrArg _ (unit_idx _ _ _ _ (by dsimp only [ix2]; omega) (Nat.zero_add _).symm)
    · rw [View.readCov_eq_canon']
      refine Eq.trans ?_ (dcol_first m c t c0 c1 (ix2 (y 0) l))
      rw [outsAt0_A m c t c0 c1]; frame_out
      exact congrArg _ (unit_idx _ _ _ _ (by dsimp only [ix2]; omega) (Nat.zero_add _).symm)
    · exact congrArg (· * _) (congrArg (_ + ·) (Finset.sum_congr rfl fun r _ =>
        congrArg _ (blk_a m c t r (x 1) n (by omega))))

/-- What a middle point leaves in `dx`. -/
theorem dx_mid
    (hfin : ∀ r p, traw m c r p * two - traw m c r p * two = 0)
    (t : Fin cfg0.N) (c0 : ¬t.val % 8 = 0) (c1 : ¬t.val % 8 = 7) (y : S1536x512.Idx) (n : Fin 4096)
    (hn : (n : ℕ) = t * 512 + (y 1 : ℕ)) :
    (outsAt0 m c t.val t.isLt).1 y
      = (∑ o : Fin 1024, DY m c (y 0) o * WB m c n o + ∑ r : Fin 64, traw m c r (y 0) * two * A m c r n) * DS m c (y 0) := by
  let t' : Fin cfg0.N := ⟨t.val - 1, Nat.lt_of_le_of_lt (Nat.sub_le _ _) t.isLt⟩
  rw [outsAt0_B m c t c0 c1]; frame_out
  simp only [read_unread_whole]
  canon_tiles x h
  all_goals
    refine (dx_payload _ _ _ _ _ x (fun o => DY m c (y 0) o) (fun o => WB m c n o) (fun r => traw m c r (y 0) * two)
      (DS m c (y 0)) (fun o => ?_) (fun o => ?_) (fun k => ?_) (fun l => ?_)).trans ?_
    · exact (congrArg _ (unit_idx _ _ _ _ (by dsimp only [ix2]; omega) (Nat.zero_add _).symm)).trans
        (dyb_at m c t' (ix2 (y 0) o))
    · rw [View.readCov_eq_canon']
      refine Eq.trans ?_ (wb_point m c t (ix2 (x 1) o) n (by dsimp only [ix2]; omega))
      exact congrArg (View.canon (wbPieces _ _)) (unit_idx _ _ _ _ (Nat.zero_add _).symm (Nat.zero_add _).symm)
    · exact (congrArg _ (unit_idx _ _ _ _ (by dsimp only [ix2]; omega) (Nat.zero_add _).symm)).trans
        (t3_at m c hfin t' (ix2 (y 0) k))
    · exact (congrArg _ (unit_idx _ _ _ _ (by dsimp only [ix2]; omega) (Nat.zero_add _).symm)).trans
        (dcol_at m c t' (ix2 (y 0) l))
    · exact congrArg (· * _) (congrArg (_ + ·) (Finset.sum_congr rfl fun r _ =>
        congrArg _ (blk_a m c t r (x 1) n (by omega))))

/-- What the last point leaves in `dx`. -/
theorem dx_last
    (hfin : ∀ r p, traw m c r p * two - traw m c r p * two = 0)
    (t : Fin cfg0.N) (c0 : ¬t.val % 8 = 0) (c1 : t.val % 8 = 7) (y : S1536x512.Idx) (n : Fin 4096)
    (hn : (n : ℕ) = t * 512 + (y 1 : ℕ)) :
    (outsAt0 m c t.val t.isLt).1 y
      = (∑ o : Fin 1024, DY m c (y 0) o * WB m c n o + ∑ r : Fin 64, traw m c r (y 0) * two * A m c r n) * DS m c (y 0) := by
  let t' : Fin cfg0.N := ⟨t.val - 1, Nat.lt_of_le_of_lt (Nat.sub_le _ _) t.isLt⟩
  rw [outsAt0_C m c t c0 c1]; frame_out
  simp only [read_unread_whole]
  canon_tiles x h
  all_goals
    refine (dx_payload _ _ _ _ _ x (fun o => DY m c (y 0) o) (fun o => WB m c n o) (fun r => traw m c r (y 0) * two)
      (DS m c (y 0)) (fun o => ?_) (fun o => ?_) (fun k => ?_) (fun l => ?_)).trans ?_
    · exact (congrArg _ (unit_idx _ _ _ _ (by dsimp only [ix2]; omega) (Nat.zero_add _).symm)).trans
        (dyb_at m c t' (ix2 (y 0) o))
    · rw [View.readCov_eq_canon']
      refine Eq.trans ?_ (wb_point m c t (ix2 (x 1) o) n (by dsimp only [ix2]; omega))
      exact congrArg (View.canon (wbPieces _ _)) (unit_idx _ _ _ _ (Nat.zero_add _).symm (Nat.zero_add _).symm)
    · exact (congrArg _ (unit_idx _ _ _ _ (by dsimp only [ix2]; omega) (Nat.zero_add _).symm)).trans
        (t3_at m c hfin t' (ix2 (y 0) k))
    · exact (congrArg _ (unit_idx _ _ _ _ (by dsimp only [ix2]; omega) (Nat.zero_add _).symm)).trans
        (dcol_at m c t' (ix2 (y 0) l))
    · exact congrArg (· * _) (congrArg (_ + ·) (Finset.sum_congr rfl fun r _ =>
        congrArg _ (blk_a m c t r (x 1) n (by omega))))

/-- What a point leaves in `dx`. -/
theorem dx_at (hfin : ∀ r p, traw m c r p * two - traw m c r p * two = 0)
    (t : Fin cfg0.N) (y : S1536x512.Idx) (n : Fin 4096) (hn : (n : ℕ) = t * 512 + (y 1 : ℕ)) :
    (outsAt0 m c t.val t.isLt).1 y
      = (∑ o : Fin 1024, DY m c (y 0) o * WB m c n o + ∑ r : Fin 64, traw m c r (y 0) * two * A m c r n) * DS m c (y 0) := by
  by_cases c0 : t.val % 8 = 0
  · exact dx_first m c hfin t c0 (by omega) y n hn
  · by_cases c1 : t.val % 8 = 7
    · exact dx_last m c hfin t c0 c1 y n hn
    · exact dx_mid m c hfin t c0 c1 y n hn

end Cert.KernelIdeal.Val

end
-- ==== Proof.Value.Db.lean ====
/- What the last grid point leaves in the result `dB`. -/
module

public import proofs.«01_k».proof.Proof.Value.Carry

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)

/-- One batch's step: the scaled rows, cut in three parts and stacked, times the batch's gradient, over what came before. -/
def dbStep (total : FVec Ideal S192x1024 .f32) (a : FVec Ideal S64x256 .f32) (xs ds : FVec Ideal S1x256 .f32)
    (d : FVec Ideal S256x1024 .bf16) : FVec Ideal S192x1024 .f32 :=
  k0_pay77 (F := Ideal) total a (k0_pay74 (F := Ideal) xs) ds d

/-- The step at an index: where the scaled values are finite, the parts after the first add nothing. -/
theorem dbStep_at (total : FVec Ideal S192x1024 .f32) (a : FVec Ideal S64x256 .f32) (xs ds : FVec Ideal S1x256 .f32)
    (d : FVec Ideal S256x1024 .bf16) (W : Fin 64 → Fin 256 → EReal) (D : Fin 256 → Fin 1024 → EReal)
    (hW : ∀ r k, a (ix2 r k) * xs (ix2 0 k) * ds (ix2 0 k) * two = W r k) (hf : ∀ r k, W r k - W r k = 0)
    (hD : ∀ k o, d (ix2 k o) = D k o) (i : Fin 192) (o : Fin 1024) :
    dbStep total a xs ds d (ix2 i o)
      = total (ix2 i o) + if h : (i : ℕ) < 64 then ∑ k : Fin 256, W ⟨i, h⟩ k * D k o else 0 := by
  have hW' := funext fun r => funext (hW r)
  subst hW'
  have b0 : (i : ℕ) < 192 := i.isLt
  unfold dbStep
  pointwise [k0_pay77, k0_pay75, k0_pay74]
  refine congrArg (_ + ·) ?_
  refine (Finset.sum_congr rfl fun k _ => congrArg₂ (· * ·)
    (parts (fun r => a (ix2 r k) * xs (ix2 0 k) * ds (ix2 0 k) * two) (fun r => hf r k) i (by omega)) (hD k o)).trans ?_
  split
  · rfl
  · exact Finset.sum_eq_zero fun k _ => zero_mul _

/-- The three stacked parts of the sum, the smallest first. -/
def dbFin (v : FVec Ideal S192x1024 .f32) : FVec Ideal S64x1024 .f32 :=
  addf (addf (extractStridedSlice S64x1024 ![128, 0] v slices_S192x1024_o128_0_S64x1024)
    (extractStridedSlice S64x1024 ![64, 0] v slices_S192x1024_o64_0_S64x1024))
    (extractStridedSlice S64x1024 ![0, 0] v slices_S192x1024_o0_0_S64x1024)

/-- The sum of the parts at an index. -/
theorem dbFin_at (v : FVec Ideal S192x1024 .f32) (y : S64x1024.Idx) :
    dbFin v y = v (ix2 ⟨128 + (y 0 : ℕ), by idx_bounds y; omega⟩ (y 1)) + v (ix2 ⟨64 + (y 0 : ℕ), by idx_bounds y; omega⟩ (y 1))
      + v (ix2 ⟨(y 0 : ℕ), by idx_bounds y; omega⟩ (y 1)) := by
  pointwise [dbFin]

/-- `dB` over the loaded arrays of the six batches. -/
theorem db_payload (a0 a1 a2 a3 a4 a5 : FVec Ideal S64x256 .f32) (x0 x1 x2 x3 x4 x5 s0 s1 s2 s3 s4 s5 : FVec Ideal S1x256 .f32)
    (d0 d1 d2 d3 d4 d5 : FVec Ideal S256x1024 .bf16) (W : Fin 6 → Fin 64 → Fin 256 → EReal)
    (D : Fin 6 → Fin 256 → Fin 1024 → EReal) (hf : ∀ b r k, W b r k - W b r k = 0)
    (h0 : ∀ r k, a0 (ix2 r k) * x0 (ix2 0 k) * s0 (ix2 0 k) * two = W 0 r k)
    (h1 : ∀ r k, a1 (ix2 r k) * x1 (ix2 0 k) * s1 (ix2 0 k) * two = W 1 r k)
    (h2 : ∀ r k, a2 (ix2 r k) * x2 (ix2 0 k) * s2 (ix2 0 k) * two = W 2 r k)
    (h3 : ∀ r k, a3 (ix2 r k) * x3 (ix2 0 k) * s3 (ix2 0 k) * two = W 3 r k)
    (h4 : ∀ r k, a4 (ix2 r k) * x4 (ix2 0 k) * s4 (ix2 0 k) * two = W 4 r k)
    (h5 : ∀ r k, a5 (ix2 r k) * x5 (ix2 0 k) * s5 (ix2 0 k) * two = W 5 r k)
    (e0 : ∀ k o, d0 (ix2 k o) = D 0 k o) (e1 : ∀ k o, d1 (ix2 k o) = D 1 k o) (e2 : ∀ k o, d2 (ix2 k o) = D 2 k o)
    (e3 : ∀ k o, d3 (ix2 k o) = D 3 k o) (e4 : ∀ k o, d4 (ix2 k o) = D 4 k o) (e5 : ∀ k o, d5 (ix2 k o) = D 5 k o)
    (y : S64x1024.Idx) :
    k0_pay4 (F := Ideal)
        (k0_pay77 (k0_pay73 (k0_pay67 a0 x0 s0 d0) (k0_pay70 a1 x1 s1) (FloatOps.ofBits FTy.f32 1073741824#32) d1 a2 x2 s2 d2)
          a3 (k0_pay74 x3) s3 d3)
        (k0_pay81 a4 x4 s4) (k0_pay83 a4 x4 s4) (k0_pay84 a4 x4 s4) d4 a5 x5 s5 d5 y
      = ∑ b : Fin 6, ∑ k : Fin 256, W b (y 0) k * D b k (y 1) := by
  have b0 : (y 0 : ℕ) < 64 := (y 0).isLt
  let T := dbStep (dbStep (dbStep (dbStep (dbStep (dbStep
    (broadcast S192x1024 (FloatOps.ofBits (F := Ideal) .f32 0x00000000#32)) a0 x0 s0 d0) a1 x1 s1 d1) a2 x2 s2 d2) a3 x3 s3 d3)
    a4 x4 s4 d4) a5 x5 s5 d5
  let S (b : Fin 6) (i : Fin 192) (o : Fin 1024) : EReal :=
    if h : (i : ℕ) < 64 then ∑ k : Fin 256, W b ⟨i, h⟩ k * D b k o else 0
  have step : ∀ i : Fin 192, ∀ o : Fin 1024, T (ix2 i o) = 0 + S 0 i o + S 1 i o + S 2 i o + S 3 i o + S 4 i o + S 5 i o := by
    intro i o
    refine (dbStep_at _ _ _ _ _ (W 5) (D 5) h5 (hf 5) e5 i o).trans (congrArg (· + _) ?_)
    refine (dbStep_at _ _ _ _ _ (W 4) (D 4) h4 (hf 4) e4 i o).trans (congrArg (· + _) ?_)
    refine (dbStep_at _ _ _ _ _ (W 3) (D 3) h3 (hf 3) e3 i o).trans (congrArg (· + _) ?_)
    refine (dbStep_at _ _ _ _ _ (W 2) (D 2) h2 (hf 2) e2 i o).trans (congrArg (· + _) ?_)
    refine (dbStep_at _ _ _ _ _ (W 1) (D 1) h1 (hf 1) e1 i o).trans (congrArg (· + _) ?_)
    refine (dbStep_at _ _ _ _ _ (W 0) (D 0) h0 (hf 0) e0 i o).trans (congrArg (· + _) ?_)
    pointwise
  have zero : ∀ i : Fin 192, ∀ o : Fin 1024, ¬(i : ℕ) < 64 → T (ix2 i o) = 0 := by
    intro i o h
    have e : ∀ b, S b i o = 0 := fun b => dif_neg h
    rw [step, e, e, e, e, e, e]
    simp only [add_zero]
  refine Eq.trans (b := dbFin T y) rfl ((dbFin_at T y).trans ?_)
  refine (congrArg₂ (· + ·) (congrArg₂ (· + ·) (zero _ _ (by dsimp only; omega)) (zero _ _ (by dsimp only; omega)))
    (step _ _)).trans ?_
  have e : ∀ b, S b ⟨(y 0 : ℕ), by omega⟩ (y 1) = ∑ k : Fin 256, W b (y 0) k * D b k (y 1) := fun b => dif_pos b0
  rw [e, e, e, e, e, e, Fin.sum_univ_six]
  simp only [zero_add]

/-- What the last point leaves in `dB`. -/
theorem db_last (hfin : ∀ r p, xaraw m c r p * XS m c p * DS m c p * two - xaraw m c r p * XS m c p * DS m c p * two = 0)
    (t : Fin cfg0.N) (h1 : t.val % 8 = 7) (y : S64x1024.Idx) :
    (outsAt0 m c t.val t.isLt).2.2.1 y
      = ∑ b : Fin 6, ∑ s : Fin 256, xaraw m c (y 0) ⟨256 * (b : ℕ) + (s : ℕ), by omega⟩
          * XS m c ⟨256 * (b : ℕ) + (s : ℕ), by omega⟩ * DS m c ⟨256 * (b : ℕ) + (s : ℕ), by omega⟩ * two
          * DY m c ⟨256 * (b : ℕ) + (s : ℕ), by omega⟩ (y 1) := by
  have h0 : ¬t.val % 8 = 0 := by omega
  let t' : Fin cfg0.N := ⟨t.val - 1, Nat.lt_of_le_of_lt (Nat.sub_le _ _) t.isLt⟩
  rw [outsAt0_C m c t h0 h1]; frame_out
  simp only [read_unread_whole]
  rw [acc_C m c t h0 h1]
  simp (disch := decide) only [View.readCov_fill]
  refine db_payload _ _ _ _ _ _ _ _ _ _ _ _ _ _ _ _ _ _ _ _ _ _ _ _
    (fun b r k => xaraw m c r ⟨256 * (b : ℕ) + (k : ℕ), by omega⟩
          * XS m c ⟨256 * (b : ℕ) + (k : ℕ), by omega⟩ * DS m c ⟨256 * (b : ℕ) + (k : ℕ), by omega⟩ * two)
    (fun b k o => DY m c ⟨256 * (b : ℕ) + (k : ℕ), by omega⟩ o) (fun b r k => hfin r _)
    ?_ ?_ ?_ ?_ ?_ ?_ ?_ ?_ ?_ ?_ ?_ ?_ y
  · exact fun r k => congrArg (· * two) (congrArg₂ (· * ·) (congrArg₂ (· * ·)
      (ld_unit (e := .f32) _ _ _ r ⟨256 * 0 + (k : ℕ), by omega⟩ (Nat.zero_add _).symm rfl)
      ((ld_unit (e := .f32) _ _ _ 0 k rfl (Nat.zero_add _).symm).trans (blk_xs m c t _ _ _ rfl)))
      ((ld_unit (e := .f32) _ _ _ 0 k rfl (Nat.zero_add _).symm).trans (blk_ds m c t _ _ _ rfl)))
  · exact fun r k => congrArg (· * two) (congrArg₂ (· * ·) (congrArg₂ (· * ·)
      (ld_unit (e := .f32) _ _ _ r ⟨256 * 1 + (k : ℕ), by omega⟩ (Nat.zero_add _).symm rfl)
      ((ld_unit (e := .f32) _ _ _ 1 k rfl (Nat.zero_add _).symm).trans (blk_xs m c t _ _ _ rfl)))
      ((ld_unit (e := .f32) _ _ _ 1 k rfl (Nat.zero_add _).symm).trans (blk_ds m c t _ _ _ rfl)))
  · exact fun r k => congrArg (· * two) (congrArg₂ (· * ·) (congrArg₂ (· * ·)
      (ld_unit (e := .f32) _ _ _ r ⟨256 * 2 + (k : ℕ), by omega⟩ (Nat.zero_add _).symm rfl)
      ((ld_unit (e := .f32) _ _ _ 2 k rfl (Nat.zero_add _).symm).trans (blk_xs m c t _ _ _ rfl)))
      ((ld_unit (e := .f32) _ _ _ 2 k rfl (Nat.zero_add _).symm).trans (blk_ds m c t _ _ _ rfl)))
  · exact fun r k => congrArg (· * two) (congrArg₂ (· * ·) (congrArg₂ (· * ·)
      (ld_unit (e := .f32) _ _ _ r ⟨256 * 3 + (k : ℕ), by omega⟩ (Nat.zero_add _).symm rfl)
      ((ld_unit (e := .f32) _ _ _ 3 k rfl (Nat.zero_add _).symm).trans (blk_xs m c t _ _ _ rfl)))
      ((ld_unit (e := .f32) _ _ _ 3 k rfl (Nat.zero_add _).symm).trans (blk_ds m c t _ _ _ rfl)))
  · exact fun r k => congrArg (· * two) (congrArg₂ (· * ·) (congrArg₂ (· * ·)
      (ld_unit (e := .f32) _ _ _ r ⟨256 * 4 + (k : ℕ), by omega⟩ (Nat.zero_add _).symm rfl)
      ((ld_unit (e := .f32) _ _ _ 4 k rfl (Nat.zero_add _).symm).trans (blk_xs m c t _ _ _ rfl)))
      ((ld_unit (e := .f32) _ _ _ 4 k rfl (Nat.zero_add _).symm).trans (blk_ds m c t _ _ _ rfl)))
  · exact fun r k => congrArg (· * two) (congrArg₂ (· * ·) (congrArg₂ (· * ·)
      (ld_unit (e := .f32) _ _ _ r ⟨256 * 5 + (k : ℕ), by omega⟩ (Nat.zero_add _).symm rfl)
      ((ld_unit (e := .f32) _ _ _ 5 k rfl (Nat.zero_add _).symm).trans (blk_xs m c t _ _ _ rfl)))
      ((ld_unit (e := .f32) _ _ _ 5 k rfl (Nat.zero_add _).symm).trans (blk_ds m c t _ _ _ rfl)))
  · exact fun k o => (ld_unit (e := .bf16) _ _ _ ⟨256 * 0 + (k : ℕ), by omega⟩ o rfl (Nat.zero_add _).symm).trans
      (dyb_at m c t' _)
  · exact fun k o => (ld_unit (e := .bf16) _ _ _ ⟨256 * 1 + (k : ℕ), by omega⟩ o rfl (Nat.zero_add _).symm).trans
      (dyb_at m c t' _)
  · exact fun k o => (ld_unit (e := .bf16) _ _ _ ⟨256 * 2 + (k : ℕ), by omega⟩ o rfl (Nat.zero_add _).symm).trans
      (dyb_at m c t' _)
  · exact fun k o => (ld_unit (e := .bf16) _ _ _ ⟨256 * 3 + (k : ℕ), by omega⟩ o rfl (Nat.zero_add _).symm).trans
      (dyb_at m c t' _)
  · exact fun k o => (ld_unit (e := .bf16) _ _ _ ⟨256 * 4 + (k : ℕ), by omega⟩ o rfl (Nat.zero_add _).symm).trans
      (dyb_at m c t' _)
  · exact fun k o => (ld_unit (e := .bf16) _ _ _ ⟨256 * 5 + (k : ℕ), by omega⟩ o rfl (Nat.zero_add _).symm).trans
      (dyb_at m c t' _)

end Cert.KernelIdeal.Val

end
-- ==== Proof.Value.Final.lean ====
/- The kernel's five result arrays after its call, and the arrays the call reads in terms of the arguments. -/
module

public import proofs.«01_k».proof.Proof.Value.Da
public import proofs.«01_k».proof.Proof.Value.Dx
public import proofs.«01_k».proof.Proof.Value.Db

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)

/-- The activations are the first argument's codes. -/
theorem X_eq (p : Fin 1536) (n : Fin 4096) :
    X m c p n = Ideal.ofBits .fp8e4m3 ((show IVec S6x256x4096 8 from m ((c : Thread nD τ).loc main_arg0))
      (ix3 ⟨p / 256, by omega⟩ ⟨p % 256, by omega⟩ n)) := by
  unfold X
  entry_read
  pointwise

/-- The incoming gradient is the third argument's codes. -/
theorem DY_eq (p : Fin 1536) (o : Fin 1024) :
    DY m c p o = Ideal.ofBits .fp8e5m2 ((show IVec S6x256x1024 8 from m ((c : Thread nD τ).loc main_arg2))
      (ix3 ⟨p / 256, by omega⟩ ⟨p % 256, by omega⟩ o)) := by
  unfold DY
  entry_read
  pointwise

/-- The first adapter is the seventh argument, transposed. -/
theorem A_eq' (r : Fin 64) (n : Fin 4096) :
    A m c r n = (show FVec Ideal S4096x64 .bf16 from m ((c : Thread nD τ).loc main_arg6)) (ix2 n r) := by
  unfold A
  entry_read
  pointwise

/-- The weights over the arguments. -/
theorem WB_eq (n : Fin 4096) (o : Fin 1024) :
    WB m c n o = nib ((show Vec Ideal S2048x1024 .i8 from m ((c : Thread nD τ).loc main_arg4)) (ix2 ⟨n / 2, by omega⟩ o)) (n % 2)
      * (show FVec Ideal S64x1024 .bf16 from m ((c : Thread nD τ).loc main_arg5)) (ix2 ⟨n / 64, by omega⟩ o) := by
  unfold WB
  refine congrArg₂ (· * ·) rfl ?_
  entry_read
  pointwise
  exact congrArg (fun k => (show FVec Ideal S64x1024 .bf16 from m ((c : Thread nD τ).loc main_arg5)) (ix2 k o))
    (Fin.ext (by show n.val / 512 * 8 + n.val / 64 % 8 = n.val / 64; omega))

/-- The gradient at the activations. -/
def DX (p : Fin 1536) (n : Fin 4096) : EReal :=
  (∑ o : Fin 1024, DY m c p o * WB m c n o + ∑ r : Fin 64, traw m c r p * two * A m c r n) * DS m c p

/-- The gradient at the first adapter, transposed. -/
def DA (r : Fin 64) (n : Fin 4096) : EReal := ∑ p : Fin 1536, traw m c r p * DS m c p * XS m c p * two * X m c p n

/-- The gradient at the second adapter. -/
def DB (r : Fin 64) (o : Fin 1024) : EReal :=
  ∑ b : Fin 6, ∑ s : Fin 256, xaraw m c r ⟨256 * (b : ℕ) + (s : ℕ), by omega⟩
    * XS m c ⟨256 * (b : ℕ) + (s : ℕ), by omega⟩ * DS m c ⟨256 * (b : ℕ) + (s : ℕ), by omega⟩ * two
    * DY m c ⟨256 * (b : ℕ) + (s : ℕ), by omega⟩ o

/-- The result `dx`. -/
theorem final_dx (hfin : ∀ r p, traw m c r p * two - traw m c r p * two = 0) :
    (dats m 0 c).arrAt 8 cfg0.N = (fun y : S1536x4096.Idx => DX m c (y 0) (y 1)) := by
  refine (dats m 0 c).arrAt_eq_of_covers 8 _ (by decide +kernel) fun t hf y => ?_
  blk_simp
  rw [after0_8]
  have bt : t.val < 8 := lt_of_lt_of_eq t.isLt N_0
  have b1 : (y 1 : ℕ) < 512 := (y 1).isLt
  have e0 : y 0 = (win0_8.blk t).view.emb y 0 := Fin.ext (by blk_simp [idx t])
  have e1 : (⟨t.val * 512 + (y 1 : ℕ), by omega⟩ : Fin 4096) = (win0_8.blk t).view.emb y 1 :=
    Fin.ext (by blk_simp [idx t])
  exact (dx_at m c hfin t y _ rfl).trans (congrArg₂ (DX m c) e0 e1)

/-- The result `dA`. -/
theorem final_da (hfin : ∀ r p, traw m c r p * DS m c p * XS m c p * two - traw m c r p * DS m c p * XS m c p * two = 0) :
    (dats m 0 c).arrAt 9 cfg0.N = (fun y : S64x4096.Idx => DA m c (y 0) (y 1)) := by
  refine (dats m 0 c).arrAt_eq_of_covers 9 _ (by decide +kernel) fun t hf y => ?_
  blk_simp
  rw [after0_9]
  have bt : t.val < 8 := lt_of_lt_of_eq t.isLt N_0
  have b1 : (y 1 : ℕ) < 512 := (y 1).isLt
  have e0 : y 0 = (win0_9.blk t).view.emb y 0 := Fin.ext (by blk_simp [idx t])
  have e1 : (⟨t.val * 512 + (y 1 : ℕ), by omega⟩ : Fin 4096) = (win0_9.blk t).view.emb y 1 :=
    Fin.ext (by blk_simp [idx t])
  exact (da_at m c hfin t y _ rfl).trans (congrArg₂ (DA m c) e0 e1)

/-- The result `dB`. -/
theorem final_db (hfin : ∀ r p, xaraw m c r p * XS m c p * DS m c p * two - xaraw m c r p * XS m c p * DS m c p * two = 0) :
    (dats m 0 c).arrAt 10 cfg0.N = (fun y : S64x1024.Idx => DB m c (y 0) (y 1)) := by
  refine (dats m 0 c).arrAt_eq_of_after_last 10 t0_7 (by decide +kernel) _ fun j => ?_
  blk_simp
  rw [after0_10]
  exact db_last m c hfin t0_7 (by decide +kernel) j

/-- The result `t`. -/
theorem final_t :
    (dats m 0 c).arrAt 11 cfg0.N = (fun y : S6x64x256.Idx =>
      traw m c (y 1) ⟨256 * (y 0 : ℕ) + (y 2 : ℕ), by idx_bounds y; omega⟩
        * DS m c ⟨256 * (y 0 : ℕ) + (y 2 : ℕ), by idx_bounds y; omega⟩) := by
  refine (dats m 0 c).arrAt_eq_of_after_last 11 t0_7 (by decide +kernel) _ fun j => ?_
  blk_simp
  rw [after0_11]
  exact t_at m c t0_7 j

/-- The result `xa`. -/
theorem final_xa :
    (dats m 0 c).arrAt 12 cfg0.N = (fun y : S6x64x256.Idx =>
      xaraw m c (y 1) ⟨256 * (y 0 : ℕ) + (y 2 : ℕ), by idx_bounds y; omega⟩
        * XS m c ⟨256 * (y 0 : ℕ) + (y 2 : ℕ), by idx_bounds y; omega⟩) := by
  refine (dats m 0 c).arrAt_eq_of_after_last 12 t0_7 (by decide +kernel) _ fun j => ?_
  blk_simp
  rw [after0_12]
  exact xa_last m c t0_7 (by decide +kernel) (by decide +kernel) j _ rfl

end Cert.KernelIdeal.Val

end
-- ==== Proof.Value.Ref.lean ====
/- The reference's results, at an index, over its arguments. -/
module

public import proofs.«01_k».proof.Proof.Gen.ReferenceIdeal.Read
public import proofs.«01_k».proof.Proof.Value.Decode
public import Idealize.ShloMosaic.Lib.IdealHost

@[expose] public section

set_option maxRecDepth 16384

noncomputable section

namespace Cert.ReferenceIdeal.Val

open Idealize.ShloMosaic Idealize.ShloMosaic.TcCoe Idealize.ShloMosaic.Tactic Cert.ReferenceIdeal.Gen Cert.ReferenceIdeal.Read
open Cert.KernelIdeal.Val (nf4 nib)

variable (x1 x3 : FVec Ideal S6x256 .f32) (x4 : Vec Ideal S2048x1024 .i8) (x5 : FVec Ideal S64x1024 .bf16)
  (x6 : FVec Ideal S4096x64 .bf16) (x7 : FVec Ideal S64x1024 .bf16)
  (r0 : FVec Ideal S6x256x4096 .bf16) (r1 : FVec Ideal S6x256x1024 .bf16)

/-- `t`, before its transpose. -/
theorem t_ref (b : Fin 6) (s : Fin 256) (r : Fin 64) :
    val_main_v7 (F := Ideal) x3 x7 r1 (ix3 b s r) = (∑ o : Fin 1024, r1 (ix3 b s o) * x7 (ix2 r o)) * x3 (ix2 b s) := by
  pointwise [val_main_v7, val_main_v6, val_main_v5, val_main_v3]

/-- `xa`, before its transpose. -/
theorem xa_ref (b : Fin 6) (s : Fin 256) (r : Fin 64) :
    val_main_v10 (F := Ideal) x1 x6 r0 (ix3 b s r) = (∑ n : Fin 4096, r0 (ix3 b s n) * x6 (ix2 n r)) * x1 (ix2 b s) := by
  pointwise [val_main_v10, val_main_v9, val_main_v8, val_main_v4]

/-- The result `t`. -/
theorem t_res (b : Fin 6) (r : Fin 64) (s : Fin 256) :
    val_main_v160 (F := Ideal) x3 x7 r1 (ix3 b r s) = val_main_v7 (F := Ideal) x3 x7 r1 (ix3 b s r) := by
  pointwise [val_main_v160]

/-- The result `xa`. -/
theorem xa_res (b : Fin 6) (r : Fin 64) (s : Fin 256) :
    val_main_v161 (F := Ideal) x1 x6 r0 (ix3 b r s) = val_main_v10 (F := Ideal) x1 x6 r0 (ix3 b s r) := by
  pointwise [val_main_v161]

/-- The result `dA`, transposed as the reference returns it. -/
theorem da_ref (r : Fin 64) (n : Fin 4096) :
    val_main_v159 (F := Ideal) x1 x3 x7 r0 r1 (ix2 r n) = Cert.KernelIdeal.Val.two * ∑ b : Fin 6, ∑ s : Fin 256,
      r0 (ix3 b s n) * (x1 (ix2 b s) * val_main_v7 (F := Ideal) x3 x7 r1 (ix3 b s r)) := by
  pointwise [val_main_v159, val_main_v151, val_main_v150, val_main_v149, val_main_v148, val_main_v147, val_main_v146,
    val_main_v4]
  rfl

/-- The result `dB`. -/
theorem db_ref (r : Fin 64) (o : Fin 1024) :
    val_main_v157 (F := Ideal) x1 x3 x6 r0 r1 (ix2 r o) = Cert.KernelIdeal.Val.two * ∑ b : Fin 6, ∑ s : Fin 256,
      val_main_v10 (F := Ideal) x1 x6 r0 (ix3 b s r) * x3 (ix2 b s) * r1 (ix3 b s o) := by
  pointwise [val_main_v157, val_main_v156, val_main_v155, val_main_v154, val_main_v153, val_main_v152, val_main_v3]
  rfl

/-- A bit of the low half of a byte, as the reference tests it. -/
theorem lo_bit : ∀ v : BitVec 8, ∀ k : Fin 4,
    IntOp.cmpi .eq (IntOp.andi (IntOp.shrsi .host (IntOp.andi (v.setWidth 32) 15#32) (BitVec.ofNat 32 k)) 1#32) 1#32
      = BitVec.ofBool (v.getLsbD k) := by
  decide +kernel

/-- A bit of the high half of a byte, as the reference tests it. -/
theorem hi_bit : ∀ v : BitVec 8, ∀ k : Fin 4,
    IntOp.cmpi .eq (IntOp.andi (IntOp.shrsi .host (IntOp.shrsi .host (v.setWidth 32) 4#32) (BitVec.ofNat 32 k)) 1#32) 1#32
      = BitVec.ofBool (v.getLsbD (4 + k)) := by
  decide +kernel

/-- The absmax factors, one per weight. -/
theorem am_ref (i : Fin 2048) (o : Fin 1024) :
    val_main_v17 (F := Ideal) x5 (ix2 i o) = x5 (ix2 ⟨i / 32, by omega⟩ o) := by
  pointwise [val_main_v17, val_main_v16]

/-- The table read by the low half of a byte. -/
theorem lo_tab (i : Fin 2048) (o : Fin 1024) :
    val_main_v72 (F := Ideal) x4 (ix2 i o) = nib (x4 (ix2 i o)) 0 := by
  simp only [val_main_v11_apply, val_main_v12_apply, val_main_v13_apply, val_main_v16_apply, val_main_v17_apply,
    val_main_v18_apply, val_main_v19_apply, val_main_v20_apply, val_main_v21_apply, val_main_v22_apply,
    val_main_v23_apply, val_main_v24_apply, val_main_v25_apply, val_main_v26_apply, val_main_v27_apply,
    val_main_v28_apply, val_main_v29_apply, val_main_v30_apply, val_main_v31_apply, val_main_v32_apply,
    val_main_v33_apply, val_main_v34_apply, val_main_v35_apply, val_main_v36_apply, val_main_v37_apply,
    val_main_v38_apply, val_main_v39_apply, val_main_v40_apply, val_main_v41_apply, val_main_v42_apply,
    val_main_v43_apply, val_main_v44_apply, val_main_v45_apply, val_main_v46_apply, val_main_v47_apply,
    val_main_v48_apply, val_main_v49_apply, val_main_v50_apply, val_main_v51_apply, val_main_v52_apply,
    val_main_v53_apply, val_main_v54_apply, val_main_v55_apply, val_main_v56_apply, val_main_v57_apply,
    val_main_v58_apply, val_main_v59_apply, val_main_v60_apply, val_main_v61_apply, val_main_v62_apply,
    val_main_v63_apply, val_main_v64_apply, val_main_v65_apply, val_main_v66_apply, val_main_v67_apply,
    val_main_v68_apply, val_main_v69_apply, val_main_v70_apply, val_main_v71_apply, val_main_v72_apply,
    val_main_c_apply, val_main_c_1_apply, val_main_c_2_apply, val_main_c_3_apply, val_main_c_4_apply,
    val_main_c_5_apply, val_main_c_6_apply, val_main_c_7_apply, val_main_c_8_apply, val_main_c_9_apply,
    val_main_c_10_apply, val_main_c_11_apply, val_main_c_12_apply, val_main_cst_apply, val_main_cst_13_apply,
    val_main_cst_14_apply, val_main_cst_15_apply, val_main_cst_16_apply, val_main_cst_17_apply, val_main_cst_18_apply,
    val_main_cst_19_apply, val_main_cst_20_apply, val_main_cst_21_apply, val_main_cst_22_apply, val_main_cst_23_apply,
    val_main_cst_24_apply, val_main_cst_25_apply, val_main_cst_26_apply, val_main_cst_27_apply]
  have h0 := lo_bit (x4 (ix2 i o)) 0
  have h1 := lo_bit (x4 (ix2 i o)) 1
  have h2 := lo_bit (x4 (ix2 i o)) 2
  have h3 := lo_bit (x4 (ix2 i o)) 3
  have e1 : (FloatOps.ofBits .bf16 0x3F80#16 : Ideal .bf16) = (1 : EReal) := by exact Ideal.ofBits_one_bf16
  have e0 : (FloatOps.ofBits .bf16 0x0000#16 : Ideal .bf16) = (0 : EReal) := by exact Ideal.ofBits_zero_bf16
  erw [h0, h1, h2, h3, e1, e0]
  rfl

/-- The table read by the high half of a byte. -/
theorem hi_tab (i : Fin 2048) (o : Fin 1024) :
    val_main_v128 (F := Ideal) x4 (ix2 i o) = nib (x4 (ix2 i o)) 1 := by
  simp only [val_main_v11_apply, val_main_v14_apply, val_main_v15_apply, val_main_v74_apply, val_main_v75_apply,
    val_main_v76_apply, val_main_v77_apply, val_main_v78_apply, val_main_v79_apply, val_main_v80_apply,
    val_main_v81_apply, val_main_v82_apply, val_main_v83_apply, val_main_v84_apply, val_main_v85_apply,
    val_main_v86_apply, val_main_v87_apply, val_main_v88_apply, val_main_v89_apply, val_main_v90_apply,
    val_main_v91_apply, val_main_v92_apply, val_main_v93_apply, val_main_v94_apply, val_main_v95_apply,
    val_main_v96_apply, val_main_v97_apply, val_main_v98_apply, val_main_v99_apply, val_main_v100_apply,
    val_main_v101_apply, val_main_v102_apply, val_main_v103_apply, val_main_v104_apply, val_main_v105_apply,
    val_main_v106_apply, val_main_v107_apply, val_main_v108_apply, val_main_v109_apply, val_main_v110_apply,
    val_main_v111_apply, val_main_v112_apply, val_main_v113_apply, val_main_v114_apply, val_main_v115_apply,
    val_main_v116_apply, val_main_v117_apply, val_main_v118_apply, val_main_v119_apply, val_main_v120_apply,
    val_main_v121_apply, val_main_v122_apply, val_main_v123_apply, val_main_v124_apply, val_main_v125_apply,
    val_main_v126_apply, val_main_v127_apply, val_main_v128_apply, val_main_c_0_apply, val_main_c_28_apply,
    val_main_c_29_apply, val_main_c_30_apply, val_main_c_31_apply, val_main_c_32_apply, val_main_c_33_apply,
    val_main_c_34_apply, val_main_c_35_apply, val_main_c_36_apply, val_main_c_37_apply, val_main_c_38_apply,
    val_main_c_39_apply, val_main_cst_40_apply, val_main_cst_41_apply, val_main_cst_42_apply, val_main_cst_43_apply,
    val_main_cst_44_apply, val_main_cst_45_apply, val_main_cst_46_apply, val_main_cst_47_apply, val_main_cst_48_apply,
    val_main_cst_49_apply, val_main_cst_50_apply, val_main_cst_51_apply, val_main_cst_52_apply, val_main_cst_53_apply,
    val_main_cst_54_apply, val_main_cst_55_apply]
  have h0 := hi_bit (x4 (ix2 i o)) 0
  have h1 := hi_bit (x4 (ix2 i o)) 1
  have h2 := hi_bit (x4 (ix2 i o)) 2
  have h3 := hi_bit (x4 (ix2 i o)) 3
  have e1 : (FloatOps.ofBits .bf16 0x3F80#16 : Ideal .bf16) = (1 : EReal) := by exact Ideal.ofBits_one_bf16
  have e0 : (FloatOps.ofBits .bf16 0x0000#16 : Ideal .bf16) = (0 : EReal) := by exact Ideal.ofBits_zero_bf16
  erw [h0, h1, h2, h3, e1, e0]
  rfl

/-- The weights of even index. -/
theorem lo_ref (i : Fin 2048) (o : Fin 1024) :
    val_main_v73 (F := Ideal) x4 x5 (ix2 i o) = nib (x4 (ix2 i o)) 0 * x5 (ix2 ⟨i / 32, by omega⟩ o) := by
  rw [val_main_v73_apply, lo_tab, am_ref]; rfl

/-- The weights of odd index. -/
theorem hi_ref (i : Fin 2048) (o : Fin 1024) :
    val_main_v129 (F := Ideal) x4 x5 (ix2 i o) = nib (x4 (ix2 i o)) 1 * x5 (ix2 ⟨i / 32, by omega⟩ o) := by
  rw [val_main_v129_apply, hi_tab, am_ref]; rfl

/-- The gradient at the activations, before its last reshape, over the two halves of the weights. -/
theorem dx_halves (b : Fin 6) (s : Fin 256) (n : Fin 4096) :
    val_main_v144 (F := Ideal) x3 x4 x5 x6 x7 r1 (ix3 b s n)
      = (if h : (n : ℕ) % 2 < 1
          then (∑ o : Fin 1024, r1 (ix3 b s o) * val_main_v73 (F := Ideal) x4 x5 (ix2 ⟨n / 2, by omega⟩ o)) * x3 (ix2 b s)
          else (∑ o : Fin 1024, r1 (ix3 b s o) * val_main_v129 (F := Ideal) x4 x5 (ix2 ⟨n / 2, by omega⟩ o)) * x3 (ix2 b s))
        + Cert.KernelIdeal.Val.two * ∑ r : Fin 64, val_main_v7 (F := Ideal) x3 x7 r1 (ix3 b s r) * x6 (ix2 n r) := by
  pointwise [val_main_v144, val_main_v143, val_main_v142, val_main_v141, val_main_v140, val_main_v139, val_main_v138,
    val_main_v137,
    val_main_v136, val_main_v135, val_main_v134, val_main_v133, val_main_v132, val_main_v131, val_main_v130, val_main_v3]
  rfl

/-- The gradient at the activations, before its last reshape. -/
theorem dx_ref (b : Fin 6) (s : Fin 256) (n : Fin 4096) :
    val_main_v144 (F := Ideal) x3 x4 x5 x6 x7 r1 (ix3 b s n)
      = (∑ o : Fin 1024, r1 (ix3 b s o)
            * (nib (x4 (ix2 ⟨n / 2, by omega⟩ o)) (n % 2) * x5 (ix2 ⟨n / 64, by omega⟩ o))) * x3 (ix2 b s)
        + Cert.KernelIdeal.Val.two * ∑ r : Fin 64, val_main_v7 (F := Ideal) x3 x7 r1 (ix3 b s r) * x6 (ix2 n r) := by
  rw [dx_halves]
  have e : ∀ (q : n.val / 2 / 32 < 64) (q' : n.val / 64 < 64), (⟨n.val / 2 / 32, q⟩ : Fin 64) = ⟨n.val / 64, q'⟩ :=
    fun _ _ => Fin.ext (by show n.val / 2 / 32 = n.val / 64; omega)
  split
  · next h =>
    have h2 : n.val % 2 = 0 := by omega
    simp only [lo_ref, h2, e _ (by omega : n.val / 64 < 64)]
  · next h =>
    have h2 : n.val % 2 = 1 := by omega
    simp only [hi_ref, h2, e _ (by omega : n.val / 64 < 64)]

/-- The result `dx`: its row `256 b + s`. -/
theorem dx_res (p : Fin 1536) (n : Fin 4096) :
    val_main_v158 (F := Ideal) x3 x4 x5 x6 x7 r1 (ix2 p n)
      = val_main_v144 (F := Ideal) x3 x4 x5 x6 x7 r1 (ix3 ⟨p / 256, by omega⟩ ⟨p % 256, by omega⟩ n) := by
  pointwise [val_main_v158, val_main_v145]

end Cert.ReferenceIdeal.Val

end
-- ==== Proof.Value.Reg.lean ====
/- The reference's widened operands, as its first call leaves them. -/
module

public import proofs.«01_k».proof.Proof.Gen.ReferenceIdeal.Frame
public import proofs.«01_k».proof.Proof.Gen.ReferenceIdeal.Run
public import Idealize.ShloMosaic.Lib.Pipeline.ValueKit

@[expose] public section

set_option maxRecDepth 16384

noncomputable section

namespace Cert.ReferenceIdeal.Val

open Idealize.ShloMosaic Idealize.ShloMosaic.TcCoe Idealize.ShloMosaic.Tactic Cert.ReferenceIdeal.Gen

variable (m : (ℓ : Loc nD τ sig) → Buf (Elt Ideal) ℓ) (c : Dev nD)

/-- The call has one point, and its blocks are the whole arrays. -/
theorem idx : ∀ t : Fin cfg0.N, win0_0.index t = ![0, 0, 0] ∧ win0_1.index t = ![0, 0, 0] ∧ win0_2.index t = ![0, 0, 0]
    ∧ win0_3.index t = ![0, 0, 0] :=
  (by decide +kernel : ∀ t : Fin grid0.N, _)

/-- The widened activations are the first argument's codes. -/
theorem reg_x (b : Fin 6) (s : Fin 256) (n : Fin 4096) :
    (show FVec Ideal S6x256x4096 .bf16 from Value.reg_main_v2_0 m c) (ix3 b s n)
      = Ideal.ofBits .fp8e4m3 ((show IVec S6x256x4096 8 from m ((c : Thread nD τ).loc main_arg0)) (ix3 b s n)) := by
  have e : (dats m 0 c).arrAt 2 cfg0.N = k0_pay1 (V m c main_v0) := by
    refine (dats m 0 c).arrAt_eq_of_after_last 2 t0_0 (by decide +kernel) _ fun j => ?_
    blk_simp
    rw [after0_2]
    frame_out
    blk_point [iblk, idx t0_0]
  have h : V m c main_v0 = bitcastToFloat (F := Ideal) .fp8e4m3 (m ((c : Thread nD τ).loc main_arg0)) := by
    show StableHlo.after (List.flatten [hostOps0]) _ _ = _
    simp only [List.flatten_cons, List.flatten_nil, List.append_nil, hostOps0]
    simp only [StableHlo.after_cons, StableHlo.after_nil]
    after_results_simp
  show (dats m 0 c).arrAt 2 cfg0.N (ix3 b s n) = _
  rw [e, h]
  pointwise [k0_pay1]

/-- The widened gradient is the third argument's codes. -/
theorem reg_dy (b : Fin 6) (s : Fin 256) (o : Fin 1024) :
    (show FVec Ideal S6x256x1024 .bf16 from Value.reg_main_v2_1 m c) (ix3 b s o)
      = Ideal.ofBits .fp8e5m2 ((show IVec S6x256x1024 8 from m ((c : Thread nD τ).loc main_arg2)) (ix3 b s o)) := by
  have e : (dats m 0 c).arrAt 3 cfg0.N = k0_pay2 (V m c main_v1) := by
    refine (dats m 0 c).arrAt_eq_of_after_last 3 t0_0 (by decide +kernel) _ fun j => ?_
    blk_simp
    rw [after0_3]
    frame_out
    blk_point [iblk, idx t0_0]
  have h : V m c main_v1 = bitcastToFloat (F := Ideal) .fp8e5m2 (m ((c : Thread nD τ).loc main_arg2)) := by
    show StableHlo.after (List.flatten [hostOps0]) _ _ = _
    simp only [List.flatten_cons, List.flatten_nil, List.append_nil, hostOps0]
    simp only [StableHlo.after_cons, StableHlo.after_nil]
    after_results_simp
  show (dats m 0 c).arrAt 3 cfg0.N (ix3 b s o) = _
  rw [e, h]
  pointwise [k0_pay2]

end Cert.ReferenceIdeal.Val

end
-- ==== Proof.Value.Real.lean ====
/- Real values among the extended reals: which of the operands are real, and the sums over them. -/
module

public import Idealize.ShloMosaic.Lib.IdealHost
public import proofs.«01_k».proof.Proof.Value.Spec

@[expose] public section

set_option maxRecDepth 16384

noncomputable section

namespace Cert.KernelIdeal.Val

open Idealize.ShloMosaic Idealize.ShloMosaic.TcCoe

/-- The value is a real number. -/
def IsR (a : EReal) : Prop := ∃ r : ℝ, a = (r : EReal)

theorem IsR.mul {a b : EReal} (ha : IsR a) (hb : IsR b) : IsR (a * b) := by
  obtain ⟨x, rfl⟩ := ha
  obtain ⟨y, rfl⟩ := hb
  exact ⟨x * y, (EReal.coe_mul x y).symm⟩

theorem IsR.add {a b : EReal} (ha : IsR a) (hb : IsR b) : IsR (a + b) := by
  obtain ⟨x, rfl⟩ := ha
  obtain ⟨y, rfl⟩ := hb
  exact ⟨x + y, (EReal.coe_add x y).symm⟩

theorem IsR.sum {ι : Type} (s : Finset ι) (f : ι → EReal) (hf : ∀ i, IsR (f i)) : IsR (∑ i ∈ s, f i) := by
  classical
  induction s using Finset.induction_on with
  | empty => exact ⟨0, by simp⟩
  | insert i s hi ih => rw [Finset.sum_insert hi]; exact (hf i).add ih

/-- A real value less itself is zero. -/
theorem IsR.sub_self {a : EReal} (ha : IsR a) : a - a = 0 := by
  obtain ⟨x, rfl⟩ := ha
  rw [← EReal.coe_sub, _root_.sub_self]; rfl

/-- A sum of two values, the second real, times a real value. -/
theorem IsR.add_mul {b c : EReal} (a : EReal) (hb : IsR b) (hc : IsR c) : (a + b) * c = a * c + b * c := by
  obtain ⟨y, rfl⟩ := hb
  obtain ⟨z, rfl⟩ := hc
  induction a using EReal.rec with
  | coe x => rw [← EReal.coe_add, ← EReal.coe_mul, ← EReal.coe_mul, ← EReal.coe_mul, ← EReal.coe_add, _root_.add_mul]
  | bot =>
    rw [EReal.bot_add, ← EReal.coe_mul y z]
    rcases lt_trichotomy z 0 with h | h | h
    · rw [EReal.bot_mul_coe_of_neg h, EReal.top_add_coe]
    · subst h; simp
    · rw [EReal.bot_mul_coe_of_pos h, EReal.bot_add]
  | top =>
    rw [EReal.top_add_coe, ← EReal.coe_mul y z]
    rcases lt_trichotomy z 0 with h | h | h
    · rw [EReal.top_mul_coe_of_neg h, EReal.bot_add]
    · subst h; simp
    · rw [EReal.top_mul_coe_of_pos h, EReal.top_add_coe]

/-- A real factor of a finite sum of real values. -/
theorem IsR.mul_sum {ι : Type} (s : Finset ι) {c : EReal} (hc : IsR c) (f : ι → EReal) (hf : ∀ i, IsR (f i)) :
    c * ∑ i ∈ s, f i = ∑ i ∈ s, c * f i := by
  classical
  induction s using Finset.induction_on with
  | empty => simp
  | insert i s hi ih =>
    rw [Finset.sum_insert hi, Finset.sum_insert hi, ← ih, mul_comm c, (IsR.sum s f hf).add_mul _ hc, mul_comm c, mul_comm c]

theorem isR_two : IsR two := by
  refine ⟨2, ?_⟩
  unfold two
  simp [Ideal.ofBits, Ideal.ieee, -EReal.coe_mul]; norm_num

/-- A value whose magnitude is below infinity is real. -/
theorem isR_of_abs {a : EReal} (h : Ideal.cmp .olt (max a (-a)) ⊤ = 1#1) : IsR a := by
  have h' : max a (-a) < ⊤ := by
    by_contra hn
    simp [Ideal.cmp, hn] at h
  induction a using EReal.rec with
  | coe x => exact ⟨x, rfl⟩
  | bot => simp at h'
  | top => simp at h'

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- An 8-bit code with four exponent bits that is not the one NaN is real. -/
theorem isR_e4m3 (b : BitVec 8) (h : IntOp.cmpi .ne (IntOp.andi (b.setWidth 32) 127#32) 127#32 = 1#1) :
    IsR (Ideal.ofBits .fp8e4m3 b) := by
  have k : ¬((b.extractLsb' 3 4).toNat = 15 ∧ (b.extractLsb' 0 3).toNat = 7) :=
    (by decide +kernel : ∀ b : BitVec 8, IntOp.cmpi .ne (IntOp.andi (b.setWidth 32) 127#32) 127#32 = 1#1 →
      ¬((b.extractLsb' 3 4).toNat = 15 ∧ (b.extractLsb' 0 3).toNat = 7)) b h
  show IsR (Ideal.e4m3fn b)
  unfold Ideal.e4m3fn
  dsimp only
  rw [if_neg k]
  split
  · exact ⟨_, rfl⟩
  · exact ⟨_, rfl⟩

/-- An 8-bit code with five exponent bits, not all of them ones, is real. -/
theorem isR_e5m2 (b : BitVec 8) (h : IntOp.cmpi .slt (IntOp.andi (b.setWidth 32) 127#32) 124#32 = 1#1) :
    IsR (Ideal.ofBits .fp8e5m2 b) := by
  have k : ¬(b.extractLsb' 2 5).toNat = 2 ^ 5 - 1 :=
    (by decide +kernel : ∀ b : BitVec 8, IntOp.cmpi .slt (IntOp.andi (b.setWidth 32) 127#32) 124#32 = 1#1 →
      ¬(b.extractLsb' 2 5).toNat = 2 ^ 5 - 1) b h
  show IsR (Ideal.ieee 5 2 b)
  unfold Ideal.ieee
  dsimp only
  rw [if_neg k]
  split
  · exact ⟨_, rfl⟩
  · exact ⟨_, rfl⟩

end Cert.KernelIdeal.Val

end
-- ==== Proof.Value.Equal.lean ====
/- The kernel's results are the reference's: the sums compared, the operands being real numbers. -/
module

public import proofs.«01_k».proof.Proof.Value.Final
public import proofs.«01_k».proof.Proof.Value.Ref
public import proofs.«01_k».proof.Proof.Value.Reg
public import proofs.«01_k».proof.Proof.Value.Real

@[expose] public section

set_option maxRecDepth 16384

noncomputable section

namespace Cert.KernelIdeal.Val

open Idealize.ShloMosaic Idealize.ShloMosaic.TcCoe Idealize.ShloMosaic.Tactic Cert.KernelIdeal.Gen
open Cert.ReferenceIdeal.Read Cert.ReferenceIdeal.Val

variable (m : (ℓ : Loc nD τ sig) → Buf (Elt Ideal) ℓ) (c : Dev nD)

/-- The row of the flattened batch for batch `b`, position `s`. -/
def pos (b : Fin 6) (s : Fin 256) : Fin 1536 := ⟨256 * (b : ℕ) + (s : ℕ), by omega⟩

theorem pos_div (b : Fin 6) (s : Fin 256) (h : (pos b s : ℕ) / 256 < 6) : (⟨(pos b s : ℕ) / 256, h⟩ : Fin 6) = b :=
  Fin.ext (by show (256 * (b : ℕ) + (s : ℕ)) / 256 = b; omega)

theorem pos_mod (b : Fin 6) (s : Fin 256) (h : (pos b s : ℕ) % 256 < 256) : (⟨(pos b s : ℕ) % 256, h⟩ : Fin 256) = s :=
  Fin.ext (by show (256 * (b : ℕ) + (s : ℕ)) % 256 = s; omega)

theorem pos_self (p : Fin 1536) : p = pos ⟨p / 256, by omega⟩ ⟨p % 256, by omega⟩ :=
  Fin.ext (by show (p : ℕ) = 256 * ((p : ℕ) / 256) + (p : ℕ) % 256; omega)

/-- The operands of the two programs are the same. -/
structure Rel (x1 x3 : FVec Ideal S6x256 .f32) (x4 : Vec Ideal S2048x1024 .i8) (x5 : FVec Ideal S64x1024 .bf16)
    (x6 : FVec Ideal Cert.ReferenceIdeal.S4096x64 .bf16) (x7 : FVec Ideal S64x1024 .bf16)
    (r0 : FVec Ideal Cert.ReferenceIdeal.S6x256x4096 .bf16) (r1 : FVec Ideal Cert.ReferenceIdeal.S6x256x1024 .bf16) : Prop where
  x : ∀ b s n, X m c (pos b s) n = r0 (ix3 b s n)
  dy : ∀ b s o, DY m c (pos b s) o = r1 (ix3 b s o)
  xs : ∀ b s, XS m c (pos b s) = x1 (ix2 b s)
  ds : ∀ b s, DS m c (pos b s) = x3 (ix2 b s)
  a : ∀ r n, A m c r n = x6 (ix2 n r)
  b : ∀ r o, B m c r o = x7 (ix2 r o)
  w : ∀ (n : Fin 4096) o, WB m c n o = nib (x4 (ix2 ⟨n / 2, by omega⟩ o)) (n % 2) * x5 (ix2 ⟨n / 64, by omega⟩ o)

/-- The operands that must be real are. -/
structure Reals : Prop where
  x : ∀ p n, IsR (X m c p n)
  dy : ∀ p o, IsR (DY m c p o)
  xs : ∀ p, IsR (XS m c p)
  ds : ∀ p, IsR (DS m c p)
  a : ∀ r n, IsR (A m c r n)
  b : ∀ r o, IsR (B m c r o)

section
variable {m c} (hr : Reals m c)
include hr

theorem Reals.traw (r : Fin 64) (p : Fin 1536) : IsR (traw m c r p) := IsR.sum _ _ fun o => (hr.b r o).mul (hr.dy p o)

theorem Reals.xaraw (r : Fin 64) (p : Fin 1536) : IsR (xaraw m c r p) := IsR.sum _ _ fun n => (hr.a r n).mul (hr.x p n)

theorem Reals.fin_dx (r : Fin 64) (p : Fin 1536) :
    Cert.KernelIdeal.Val.traw m c r p * two - Cert.KernelIdeal.Val.traw m c r p * two = 0 :=
  ((hr.traw r p).mul isR_two).sub_self

theorem Reals.fin_da (r : Fin 64) (p : Fin 1536) :
    Cert.KernelIdeal.Val.traw m c r p * DS m c p * XS m c p * two - Cert.KernelIdeal.Val.traw m c r p * DS m c p * XS m c p * two = 0 :=
  ((((hr.traw r p).mul (hr.ds p)).mul (hr.xs p)).mul isR_two).sub_self

theorem Reals.fin_db (r : Fin 64) (p : Fin 1536) :
    Cert.KernelIdeal.Val.xaraw m c r p * XS m c p * DS m c p * two
      - Cert.KernelIdeal.Val.xaraw m c r p * XS m c p * DS m c p * two = 0 :=
  ((((hr.xaraw r p).mul (hr.xs p)).mul (hr.ds p)).mul isR_two).sub_self

end

section
variable {m c} {x1 x3 : FVec Ideal S6x256 .f32} {x4 : Vec Ideal S2048x1024 .i8} {x5 : FVec Ideal S64x1024 .bf16}
  {x6 : FVec Ideal Cert.ReferenceIdeal.S4096x64 .bf16} {x7 : FVec Ideal S64x1024 .bf16}
  {r0 : FVec Ideal Cert.ReferenceIdeal.S6x256x4096 .bf16} {r1 : FVec Ideal Cert.ReferenceIdeal.S6x256x1024 .bf16}
  (h : Rel m c x1 x3 x4 x5 x6 x7 r0 r1)
include h

/-- `t` is the reference's. -/
theorem Rel.t_eq (b : Fin 6) (s : Fin 256) (r : Fin 64) :
    traw m c r (pos b s) * DS m c (pos b s) = val_main_v7 (F := Ideal) x3 x7 r1 (ix3 b s r) := by
  rw [t_ref, h.ds]
  refine congrArg (· * x3 (ix2 b s)) (Finset.sum_congr rfl fun o _ => ?_)
  rw [h.b, h.dy, mul_comm]

/-- `xa` is the reference's. -/
theorem Rel.xa_eq (b : Fin 6) (s : Fin 256) (r : Fin 64) :
    xaraw m c r (pos b s) * XS m c (pos b s) = val_main_v10 (F := Ideal) x1 x6 r0 (ix3 b s r) := by
  rw [xa_ref, h.xs]
  refine congrArg (· * x1 (ix2 b s)) (Finset.sum_congr rfl fun n _ => ?_)
  rw [h.a, h.x, mul_comm]

/-- The gradient at the activations is the reference's, by batch and position. -/
theorem Rel.dx_eq' (hr : Reals m c) (b : Fin 6) (s : Fin 256) (n : Fin 4096) :
    DX m c (pos b s) n = val_main_v144 (F := Ideal) x3 x4 x5 x6 x7 r1 (ix3 b s n) := by
  unfold DX
  have hb : ∀ r, IsR (traw m c r (pos b s) * two * A m c r n) := fun r => ((hr.traw r _).mul isR_two).mul (hr.a r n)
  rw [dx_ref, IsR.add_mul _ (IsR.sum _ _ hb) (hr.ds _)]
  refine congrArg₂ (· + ·) ?_ ?_
  · rw [h.ds]
    refine congrArg (· * x3 (ix2 b s)) (Finset.sum_congr rfl fun o _ => ?_)
    rw [h.dy, h.w]
  · rw [mul_comm _ (DS m c (pos b s)), (hr.ds _).mul_sum _ _ hb, isR_two.mul_sum]
    · refine Finset.sum_congr rfl fun r _ => ?_
      rw [← h.t_eq, ← h.a]
      ac_rfl
    · intro r
      rw [← h.t_eq, ← h.a]
      exact ((hr.traw r _).mul (hr.ds _)).mul (hr.a r n)

/-- The gradient at the activations is the reference's. -/
theorem Rel.dx_eq (hr : Reals m c) (p : Fin 1536) (n : Fin 4096) :
    DX m c p n = val_main_v158 (F := Ideal) x3 x4 x5 x6 x7 r1 (ix2 p n) := by
  rw [dx_res, ← h.dx_eq' hr, ← pos_self]

/-- The gradient at the first adapter is the reference's. -/
theorem Rel.da_eq (hr : Reals m c) (r : Fin 64) (n : Fin 4096) :
    DA m c r n = val_main_v159 (F := Ideal) x1 x3 x7 r0 r1 (ix2 r n) := by
  have hg : ∀ b s, IsR (r0 (ix3 b s n) * (x1 (ix2 b s) * val_main_v7 (F := Ideal) x3 x7 r1 (ix3 b s r))) := fun b s => by
    rw [← h.t_eq, ← h.x, ← h.xs]
    exact (hr.x _ _).mul ((hr.xs _).mul ((hr.traw _ _).mul (hr.ds _)))
  rw [da_ref, isR_two.mul_sum _ _ fun b => IsR.sum _ _ (hg b)]
  unfold DA
  refine Eq.symm ?_
  rw [Finset.sum_congr rfl fun b _ => isR_two.mul_sum Finset.univ _ (hg b)]
  refine Fin.sum_mul_add_congr fun b s hl => ?_
  have e : (⟨b.val * 256 + s.val, hl⟩ : Fin 1536) = pos b s := Fin.ext (by show b.val * 256 + s.val = 256 * b.val + s.val; omega)
  rw [e, ← h.t_eq, ← h.x, ← h.xs]
  ac_rfl

/-- The gradient at the second adapter is the reference's. -/
theorem Rel.db_eq (hr : Reals m c) (r : Fin 64) (o : Fin 1024) :
    DB m c r o = val_main_v157 (F := Ideal) x1 x3 x6 r0 r1 (ix2 r o) := by
  have hg : ∀ b s, IsR (val_main_v10 (F := Ideal) x1 x6 r0 (ix3 b s r) * x3 (ix2 b s) * r1 (ix3 b s o)) := fun b s => by
    rw [← h.xa_eq, ← h.dy, ← h.ds]
    exact (((hr.xaraw _ _).mul (hr.xs _)).mul (hr.ds _)).mul (hr.dy _ _)
  rw [db_ref, isR_two.mul_sum _ _ fun b => IsR.sum _ _ (hg b)]
  refine Finset.sum_congr rfl fun b _ => ?_
  rw [isR_two.mul_sum _ _ (hg b)]
  refine Finset.sum_congr rfl fun s _ => ?_
  show xaraw m c r (pos b s) * XS m c (pos b s) * DS m c (pos b s) * two * DY m c (pos b s) o = _
  rw [← h.xa_eq, ← h.dy, ← h.ds]
  ac_rfl

end

end Cert.KernelIdeal.Val

end
-- ==== Proof.Value.Link.lean ====
/- The two programs' operands over one set of arguments, and what the precondition says of them. -/
module

public import proofs.«01_k».proof.Defs
public import proofs.«01_k».proof.Proof.Value.Equal

@[expose] public section

set_option maxRecDepth 16384

noncomputable section

namespace Cert.KernelIdeal.Val

open Idealize.ShloMosaic Idealize.ShloMosaic.TcCoe Idealize.ShloMosaic.Tactic Cert.KernelIdeal.Gen

variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)

/-- Memories that agree on the arguments give the two programs the same operands. -/
theorem rel_of
    (h0 : m' ((c.tc : Thread Cert.ReferenceIdeal.nD Cert.ReferenceIdeal.τ).loc Cert.ReferenceIdeal.main_arg0)
      = m ((c.tc : Thread nD τ).loc main_arg0))
    (h1 : m' ((c.tc : Thread Cert.ReferenceIdeal.nD Cert.ReferenceIdeal.τ).loc Cert.ReferenceIdeal.main_arg1)
      = m ((c.tc : Thread nD τ).loc main_arg1))
    (h2 : m' ((c.tc : Thread Cert.ReferenceIdeal.nD Cert.ReferenceIdeal.τ).loc Cert.ReferenceIdeal.main_arg2)
      = m ((c.tc : Thread nD τ).loc main_arg2))
    (h3 : m' ((c.tc : Thread Cert.ReferenceIdeal.nD Cert.ReferenceIdeal.τ).loc Cert.ReferenceIdeal.main_arg3)
      = m ((c.tc : Thread nD τ).loc main_arg3))
    (h4 : m' ((c.tc : Thread Cert.ReferenceIdeal.nD Cert.ReferenceIdeal.τ).loc Cert.ReferenceIdeal.main_arg4)
      = m ((c.tc : Thread nD τ).loc main_arg4))
    (h5 : m' ((c.tc : Thread Cert.ReferenceIdeal.nD Cert.ReferenceIdeal.τ).loc Cert.ReferenceIdeal.main_arg5)
      = m ((c.tc : Thread nD τ).loc main_arg5))
    (h6 : m' ((c.tc : Thread Cert.ReferenceIdeal.nD Cert.ReferenceIdeal.τ).loc Cert.ReferenceIdeal.main_arg6)
      = m ((c.tc : Thread nD τ).loc main_arg6))
    (h7 : m' ((c.tc : Thread Cert.ReferenceIdeal.nD Cert.ReferenceIdeal.τ).loc Cert.ReferenceIdeal.main_arg7)
      = m ((c.tc : Thread nD τ).loc main_arg7)) :
    Rel m c (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (Cert.ReferenceIdeal.Value.reg_main_v2_0 m' c) (Cert.ReferenceIdeal.Value.reg_main_v2_1 m' c) where
  x b s n := by
    rw [X_eq, pos_div, pos_mod]
    refine Eq.trans ?_ (Cert.ReferenceIdeal.Val.reg_x m' c b s n).symm
    exact congrArg (fun f : IVec S6x256x4096 8 => Ideal.ofBits .fp8e4m3 (f (ix3 b s n))) h0.symm
  dy b s o := by
    rw [DY_eq, pos_div, pos_mod]
    refine Eq.trans ?_ (Cert.ReferenceIdeal.Val.reg_dy m' c b s o).symm
    exact congrArg (fun f : IVec S6x256x1024 8 => Ideal.ofBits .fp8e5m2 (f (ix3 b s o))) h2.symm
  xs b s := by
    unfold XS
    rw [pos_div, pos_mod, V_main_arg1]
    exact congrArg (fun f : FVec Ideal S6x256 .f32 => f (ix2 b s)) h1.symm
  ds b s := by
    unfold DS
    rw [pos_div, pos_mod, V_main_arg3]
    exact congrArg (fun f : FVec Ideal S6x256 .f32 => f (ix2 b s)) h3.symm
  a r n := by
    rw [A_eq']
    exact congrArg (fun f : FVec Ideal S4096x64 .bf16 => f (ix2 n r)) h6.symm
  b r o := by
    unfold B
    rw [V_main_arg7]
    exact congrArg (fun f : FVec Ideal S64x1024 .bf16 => f (ix2 r o)) h7.symm
  w n o := by
    rw [WB_eq]
    exact congrArg₂ (· * ·)
      (congrArg (fun f : Vec Ideal S2048x1024 .i8 => nib (f (ix2 ⟨n / 2, by omega⟩ o)) (n % 2)) h4.symm)
      (congrArg (fun f : FVec Ideal S64x1024 .bf16 => f (ix2 ⟨n / 64, by omega⟩ o)) h5.symm)

/-- The precondition makes the operands real. -/
theorem reals_of [hPre : Cert.Pre_finite.Facts] (hp : Cert.Pre_KernelIdeal_finite m) : Reals m c := by
  obtain ⟨p0, p2, p1, p3, p6, p7⟩ := hp c
  refine ⟨fun p n => ?_, fun p o => ?_, fun p => ?_, fun p => ?_, fun r n => ?_, fun r o => ?_⟩
  · rw [X_eq]; exact isR_e4m3 _ (congrFun p0 _)
  · rw [DY_eq]; exact isR_e5m2 _ (congrFun p2 _)
  · unfold XS; rw [V_main_arg1]; exact isR_of_abs (top_f32 ▸ congrFun p1 _)
  · unfold DS; rw [V_main_arg3]; exact isR_of_abs (top_f32 ▸ congrFun p3 _)
  · rw [A_eq']; exact isR_of_abs (top_bf16 ▸ congrFun p6 _)
  · unfold B; rw [V_main_arg7]; exact isR_of_abs (top_bf16 ▸ congrFun p7 _)

end Cert.KernelIdeal.Val

end
-- ==== Proof.lean ====
module

public import proofs.«01_k».proof.Defs
public import proofs.«01_k».proof.Proof.KernelFrame
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Value.Link
public import Idealize.ShloMosaic.Adequacy
public import Idealize.ShloMosaic.Init

@[expose] public section

noncomputable section

namespace Cert.Proof

open Idealize.ShloMosaic Idealize.SL.Sem Idealize.ShloMosaic.Tactic Cert.Kernel Cert.KernelIdeal.Val

/-- The precondition states nothing the generated side conditions do not. -/
theorem preFacts : Cert.Pre_finite.Facts := by
  constructor <;> decide

set_option maxHeartbeats 1600000 in
/-- The idealized kernel's five results are the reference's. -/
theorem equal [hPre : Cert.Pre_finite.Facts] : Cert.algebraic_KernelIdeal_ReferenceIdeal_pre_finite := by
  pair_intro
  · run_from Cert.KernelIdeal.Gen.run_main m g
  · have h := fun c => rel_of m c m' (hagree c).1 (hagree c).2.1 (hagree c).2.2.1 (hagree c).2.2.2.1 (hagree c).2.2.2.2.1
      (hagree c).2.2.2.2.2.1 (hagree c).2.2.2.2.2.2.1 (hagree c).2.2.2.2.2.2.2
    have hr := fun c => reals_of m c hpre
    clear hagree
    run_from Cert.ReferenceIdeal.Value.run m' g'
    · refine (Cert.ReferenceIdeal.Read.val_main_v158_eq (Cert.ReferenceIdeal.Value.exitV m' c)).trans ?_
      rw [Cert.ReferenceIdeal.Value.exit_main_arg3, Cert.ReferenceIdeal.Value.exit_main_arg4, Cert.ReferenceIdeal.Value.exit_main_arg5, Cert.ReferenceIdeal.Value.exit_main_arg6, Cert.ReferenceIdeal.Value.exit_main_arg7, Cert.ReferenceIdeal.Value.exit_main_v2_1]
      refine Eq.trans ?_ (final_dx m c (hr c).fin_dx).symm
      funext y
      rw [eq_ix2 y]
      exact ((h c).dx_eq (hr c) (y 0) (y 1)).symm
    · refine (Cert.ReferenceIdeal.Read.val_main_v159_eq (Cert.ReferenceIdeal.Value.exitV m' c)).trans ?_
      rw [Cert.ReferenceIdeal.Value.exit_main_arg1, Cert.ReferenceIdeal.Value.exit_main_arg3, Cert.ReferenceIdeal.Value.exit_main_arg7, Cert.ReferenceIdeal.Value.exit_main_v2_0, Cert.ReferenceIdeal.Value.exit_main_v2_1]
      refine Eq.trans ?_ (final_da m c (hr c).fin_da).symm
      funext y
      rw [eq_ix2 y]
      exact ((h c).da_eq (hr c) (y 0) (y 1)).symm
    · refine (Cert.ReferenceIdeal.Read.val_main_v157_eq (Cert.ReferenceIdeal.Value.exitV m' c)).trans ?_
      rw [Cert.ReferenceIdeal.Value.exit_main_arg1, Cert.ReferenceIdeal.Value.exit_main_arg3, Cert.ReferenceIdeal.Value.exit_main_arg6, Cert.ReferenceIdeal.Value.exit_main_v2_0, Cert.ReferenceIdeal.Value.exit_main_v2_1]
      refine Eq.trans ?_ (final_db m c (hr c).fin_db).symm
      funext y
      rw [eq_ix2 y]
      exact ((h c).db_eq (hr c) (y 0) (y 1)).symm
    · refine (Cert.ReferenceIdeal.Read.val_main_v160_eq (Cert.ReferenceIdeal.Value.exitV m' c)).trans ?_
      rw [Cert.ReferenceIdeal.Value.exit_main_arg3, Cert.ReferenceIdeal.Value.exit_main_arg7, Cert.ReferenceIdeal.Value.exit_main_v2_1]
      refine Eq.trans ?_ (final_t m c).symm
      funext y
      rw [eq_ix3 y]
      exact (Cert.ReferenceIdeal.Val.t_res _ _ _ (y 0) (y 1) (y 2)).trans ((h c).t_eq (y 0) (y 2) (y 1)).symm
    · refine (Cert.ReferenceIdeal.Read.val_main_v161_eq (Cert.ReferenceIdeal.Value.exitV m' c)).trans ?_
      rw [Cert.ReferenceIdeal.Value.exit_main_arg1, Cert.ReferenceIdeal.Value.exit_main_arg6, Cert.ReferenceIdeal.Value.exit_main_v2_0]
      refine Eq.trans ?_ (final_xa m c).symm
      funext y
      rw [eq_ix3 y]
      exact (Cert.ReferenceIdeal.Val.xa_res _ _ _ (y 0) (y 1) (y 2)).trans ((h c).xa_eq (y 0) (y 2) (y 1)).symm

theorem claim : Cert.Claim := ⟨Cert.Kernel.Gen.facts, Cert.KernelIdeal.Gen.facts, Cert.ReferenceIdeal.Gen.facts, preFacts,
  kernel_frame, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, equal (hPre := preFacts)⟩

end Cert.Proof

end
